-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S8x1024x32 : Shape := ⟨3, ![8, 1024, 32]⟩
abbrev S8192x32 : Shape := ⟨2, ![8192, 32]⟩
abbrev S_ : Shape := ⟨0, ![]⟩

class Facts : Prop where
  bcast_S_S8x1024x32 : S_.BroadcastsInDim S8x1024x32 (![] : Fin 0 → Fin S8x1024x32.rank)
  reducesTo_S8x1024x32_S_d0_1_2 : S8x1024x32.ReducesTo [0, 1, 2] S_
  h_S_ : 0 < S_.numel
  bcast_S_S8192x32 : S_.BroadcastsInDim S8192x32 (![] : Fin 0 → Fin S8192x32.rank)
  reducesTo_S8192x32_S_d0_1 : S8192x32.ReducesTo [0, 1] S_

variable [Facts]

def fn {F : FTy → Type} [FloatOps F] (main_arg0 : FVec F S8x1024x32 .f32) (main_arg1 : FVec F S8192x32 .f32) : IVec S_ 1 :=
  let main_v0 : FVec F S8x1024x32 .f32 := Host.absf main_arg0
  let main_cst : FVec F S_ .f32 := constant S_ .f32 0x7F800000#32
  let main_v1 : FVec F S8x1024x32 .f32 := broadcastInDim S8x1024x32 ![] bcast_S_S8x1024x32 main_cst
  let main_v2 : IVec S8x1024x32 1 := cmpf .olt main_v0 main_v1
  let main_c : IVec S_ 1 := constantI S_ 1 1#1
  let main_v3 : IVec S_ 1 := (fun x v => Host.reduce IntOp.andi x v reducesTo_S8x1024x32_S_d0_1_2 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  main_v8
-- ==== KernelIdeal.lean ====
abbrev S8x1024x32 : Shape := ⟨3, ![8, 1024, 32]⟩
abbrev S8192x32 : Shape := ⟨2, ![8192, 32]⟩
abbrev S16x1x512 : Shape := ⟨3, ![16, 1, 512]⟩
abbrev S1x1 : Shape := ⟨2, ![1, 1]⟩
abbrev S512x32 : Shape := ⟨2, ![512, 32]⟩
abbrev S1x1x512 : Shape := ⟨3, ![1, 1, 512]⟩
abbrev S512x8192 : Shape := ⟨2, ![512, 8192]⟩
abbrev S32x128 : Shape := ⟨2, ![32, 128]⟩
abbrev S512x128 : Shape := ⟨2, ![512, 128]⟩
abbrev S512x1 : Shape := ⟨2, ![512, 1]⟩
abbrev S8192 : Shape := ⟨1, ![8192]⟩
abbrev S1x8192 : Shape := ⟨2, ![1, 8192]⟩
abbrev S512x2048 : Shape := ⟨2, ![512, 2048]⟩
abbrev S512 : Shape := ⟨1, ![512]⟩
abbrev S1x512 : Shape := ⟨2, ![1, 512]⟩
abbrev S1 : Shape := ⟨1, ![1]⟩
abbrev S8192x1 : Shape := ⟨2, ![8192, 1]⟩
abbrev S_ : Shape := ⟨0, ![]⟩
abbrev S8192x128 : Shape := ⟨2, ![8192, 128]⟩
abbrev S256 : Shape := ⟨1, ![256]⟩
abbrev S256x128 : Shape := ⟨2, ![256, 128]⟩

abbrev nBuf : Table → Nat
  | .hbm => 18
  | .local .tc .vmem => 6
  | .local .scVector .vmem => 2
  | _ => 0

abbrev bufTy : (tb : Table) → Fin (nBuf tb) → BufTy
  | .hbm, ⟨0, _⟩ => ⟨S8x1024x32, .f32⟩
  | .hbm, ⟨1, _⟩ => ⟨S8192x32, .f32⟩
  | .hbm, ⟨2, _⟩ => ⟨S8192x32, .f32⟩
  | .hbm, ⟨3, _⟩ => ⟨S16x1x512, .i32⟩
  | .hbm, ⟨4, _⟩ => ⟨S1x1, .f32⟩
  | .hbm, ⟨5, _⟩ => ⟨S8192x1, .i32⟩
  | .hbm, ⟨6, _⟩ => ⟨S_, .i32⟩
  | .hbm, ⟨7, _⟩ => ⟨S_, .f32⟩
  | .hbm, ⟨8, _⟩ => ⟨S8192x128, .f32⟩
  | .hbm, ⟨9, _⟩ => ⟨S8192, .i32⟩
  | .hbm, ⟨10, _⟩ => ⟨S8192x128, .f32⟩
  | .hbm, ⟨11, _⟩ => ⟨S8192x32, .f32⟩
  | .hbm, ⟨12, _⟩ => ⟨S8x1024x32, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local .tc .vmem, ⟨0, _⟩ => ⟨S512x32, .f32⟩
  | .local .tc .vmem, ⟨1, _⟩ => ⟨S512x32, .f32⟩
  | .local .tc .vmem, ⟨2, _⟩ => ⟨S8192x32, .f32⟩
  | .local .tc .vmem, ⟨3, _⟩ => ⟨S1x1x512, .i32⟩
  | .local .tc .vmem, ⟨4, _⟩ => ⟨S1x1x512, .i32⟩
  | .local .tc .vmem, ⟨5, _⟩ => ⟨S1x1, .f32⟩
  | .local .scVector .vmem, ⟨0, _⟩ => ⟨S256, .i32⟩
  | .local .scVector .vmem, ⟨1, _⟩ => ⟨S256x128, .f32⟩
  | _, _ => ⟨S8x1024x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v3_scv : Ref sig .scVector := ⟨.hbm, 8, rfl⟩
abbrev main_v4_scv : Ref sig .scVector := ⟨.hbm, 9, rfl⟩
abbrev main_v5_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_16 : BitVec 32 := 0#32
  let v76 : BitVec 1 := Scalar.cmpi .eq arg0 c0_i32_16
  let v77 : BitVec 32 := Scalar.extui v76
  let c0_i32_17 : BitVec 32 := 0#32
  let v78 : BitVec 1 := Scalar.cmpi .ne v77 c0_i32_17
  v78

def k0_cond2 (i : grid0.Coords) : BitVec 1 :=
  let arg0 : BitVec 32 := BitVec.ofNat 32 (i 0).val
  let c0_i32_18 : BitVec 32 := 0#32
  let v79 : BitVec 1 := Scalar.cmpi .sgt arg0 c0_i32_18
  let v80 : BitVec 32 := Scalar.extui v79
  let c0_i32_19 : BitVec 32 := 0#32
  let v81 : BitVec 1 := Scalar.cmpi .ne v80 c0_i32_19
  v81

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x1024x32 : Shape := ⟨3, ![8, 1024, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S32x8192 : Shape := ⟨2, ![32, 8192]⟩
abbrev S8192x8192 : Shape := ⟨2, ![8192, 8192]⟩
abbrev S1x8192 : Shape := ⟨2, ![1, 8192]⟩
abbrev S1 : Shape := ⟨1, ![1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S8x1024x32, .f32⟩
  | .hbm, ⟨1, _⟩ => ⟨S8192x32, .f32⟩
  | .hbm, ⟨2, _⟩ => ⟨S8192x32, .f32⟩
  | .hbm, ⟨3, _⟩ => ⟨S8192x32, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x32, .f32⟩
  | .hbm, ⟨9, _⟩ => ⟨S8192x32, .f32⟩
  | .hbm, ⟨10, _⟩ => ⟨S32x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x32, .f32⟩
  | .hbm, ⟨15, _⟩ => ⟨S_, .f32⟩
  | .hbm, ⟨16, _⟩ => ⟨S8192, .f32⟩
  | .hbm, ⟨17, _⟩ => ⟨S1x8192, .f32⟩
  | .hbm, ⟨18, _⟩ => ⟨S8192x8192, .f32⟩
  | .hbm, ⟨19, _⟩ => ⟨S8192x8192, .f32⟩
  | .hbm, ⟨20, _⟩ => ⟨S8192x8192, .i32⟩
  | .hbm, ⟨21, _⟩ => ⟨S_, .f32⟩
  | .hbm, ⟨22, _⟩ => ⟨S_, .i32⟩
  | .hbm, ⟨23, _⟩ => ⟨S8192, .f32⟩
  | .hbm, ⟨24, _⟩ => ⟨S8192, .i32⟩
  | .hbm, ⟨25, _⟩ => ⟨S8192x1, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S1, .i32⟩
  | .hbm, ⟨36, _⟩ => ⟨S_, .i32⟩
  | .hbm, ⟨37, _⟩ => ⟨S8192x1, .i32⟩
  | .hbm, ⟨38, _⟩ => ⟨S8192x1, .i1⟩
  | .hbm, ⟨39, _⟩ => ⟨S1x1, .i32⟩
  | .hbm, ⟨40, _⟩ => ⟨S8192x1, .i32⟩
  | .hbm, ⟨41, _⟩ => ⟨S8192x1, .i1⟩
  | .hbm, ⟨42, _⟩ => ⟨S8192x1, .i1⟩
  | .hbm, ⟨43, _⟩ => ⟨S_, .i1⟩
  | .hbm, ⟨44, _⟩ => ⟨S8192, .i1⟩
  | .hbm, ⟨45, _⟩ => ⟨S8192x32, .f32⟩
  | .hbm, ⟨46, _⟩ => ⟨S8192x32, .i1⟩
  | .hbm, ⟨47, _⟩ => ⟨S_, .f32⟩
  | .hbm, ⟨48, _⟩ => ⟨S8192x32, .f32⟩
  | .hbm, ⟨49, _⟩ => ⟨S8192x32, .f32⟩
  | .hbm, ⟨50, _⟩ => ⟨S8x1024x32, .f32⟩
  | .hbm, ⟨51, _⟩ => ⟨S8x1024x32, .f32⟩
  | .hbm, ⟨52, _⟩ => ⟨S8x1024x32, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8x1024x32, .f32⟩
  | .hbm, ⟨58, _⟩ => ⟨S8x1024x32, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S8x1024x32, .f32⟩
  | .hbm, ⟨67, _⟩ => ⟨S8x1024x32, .f32⟩
  | _, _ => ⟨S8x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_2 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_4 : Ref sig .tc := ⟨.hbm, 59, rfl⟩
abbrev main_v26 : Ref sig .tc := ⟨.hbm, 60, rfl⟩
abbrev main_cst_5 : Ref sig .tc := ⟨.hbm, 61, rfl⟩
abbrev main_v27 : Ref sig .tc := ⟨.hbm, 62, rfl⟩
abbrev main_cst_6 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩

abbrev nD : Nat := 1
abbrev τ : Topo := Topo.v7x

variable {F : FTy → Type} [FloatOps F]
-- ==== Proof.Task.lean ====
/-
  The SparseCore call: thirty-two tiles, each fetching its 256 row numbers, gathering those rows of the padded
  codebook into its row buffer, and copying them out to its block of the result. The file holds the program as the
  launch theorem reads it, what the call hands each tile and gets back — the row contents included — and the run of
  one tile's task, at any tile.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Task

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱₁ : Variants := 𝒱₀.lift
abbrev 𝒱 : Variants := 𝒱₁
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the staging pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers the call works on -/

abbrev tLoc (d : Dev nD) : Loc nD τ sig := (SparseCore.T d).loc main_v3
abbrev iLoc (d : Dev nD) : Loc nD τ sig := (SparseCore.T d).loc main_v4
abbrev oLoc (d : Dev nD) : Loc nD τ sig := (SparseCore.T d).loc main_v5

local notation "tV" => (Memref.whole Cert.KernelIdeal.main_v3_scv : Memref Cert.KernelIdeal.sig Kind.scVector Space.hbm Cert.KernelIdeal.S8192x128 EltTy.f32)
local notation "iV" => (Memref.whole Cert.KernelIdeal.main_v4_scv : Memref Cert.KernelIdeal.sig Kind.scVector Space.hbm Cert.KernelIdeal.S8192 EltTy.i32)
local notation "oV" => (Memref.whole Cert.KernelIdeal.main_v5_scv : Memref Cert.KernelIdeal.sig Kind.scVector Space.hbm Cert.KernelIdeal.S8192x128 EltTy.f32)
local notation "sV" => (Memref.whole Cert.KernelIdeal.cc1_scratch0 : Memref Cert.KernelIdeal.sig Kind.scVector Space.vmem Cert.KernelIdeal.S256 EltTy.i32)
local notation "rV" => (Memref.whole Cert.KernelIdeal.cc1_scratch1 : Memref Cert.KernelIdeal.sig Kind.scVector Space.vmem Cert.KernelIdeal.S256x128 EltTy.f32)

theorem idiv : 32 ∣ S8192.size 0 := ⟨256, rfl⟩
theorem odiv : 32 ∣ S8192x128.size 0 := ⟨256, rfl⟩
/-- Tile `w`'s 256 row numbers and its 256 rows of the result. -/
abbrev irow (w : Fin 32) : Rect S8192 := Rect.part (s := S8192) (a₀ := 0) idiv w
abbrev orow (w : Fin 32) : Rect S8192x128 := Rect.part (s := S8192x128) (a₀ := 0) odiv w
abbrev iRowSet (w : Fin 32) : Finset S8192.Idx := ((iV).view.slice (irow w)).set
abbrev oRowSet (w : Fin 32) : Finset S8192x128.Idx := ((oV).view.slice (orow w)).set

/-- Tile `w`'s share of the table: the full share halved five times. -/
abbrev tq (w : Fin 32) : PosShare TreeShare := ShareLeaves.leaf 5 fullShare w

/-! ## What the gather computes -/

/-- The table's position at row `r`, column `k`. -/
def tIx (r : Fin 8192) (k : Fin 128) : S8192x128.Idx := fun | 0 => r | 1 => k | ⟨_ + 2, h⟩ => absurd h (Nat.not_lt.2 (Nat.le_add_left _ _))
/-- The list's position `r`. -/
def lIx (r : Fin 8192) : S8192.Idx := fun | 0 => r | ⟨_ + 1, h⟩ => absurd h (Nat.not_lt.2 (Nat.le_add_left _ _))

/-- Row `r` of the result is the row of the table that entry `r` of the list names. -/
def gout (tab : S8192x128.Idx → Elt F .f32) (ind : S8192.Idx → BitVec 32) : S8192x128.Idx → Elt F .f32 :=
  fun x => tab (tIx ⟨(ind (lIx (x 0))).toNat % 8192, Nat.mod_lt _ (by decide)⟩ (x 1))

/-! ## What the handshakes carry -/

section Pay

variable [FloatOps F] (tab : Dev nD → S8192x128.Idx → Elt F .f32) (ind : Dev nD → S8192.Idx → BitVec 32)

abbrev iRowPts (d : Dev nD) (w : Fin 32) : sProp 𝕄 := iLoc d ↦[iRowSet w]{fullShare} (ind d : Buf (Elt F) (iLoc d))
abbrev tShPts (d : Dev nD) (w : Fin 32) : sProp 𝕄 := tLoc d ↦{tq w} (tab d : Buf (Elt F) (tLoc d))
abbrev oRowPts (d : Dev nD) (w : Fin 32) (f : Buf (Elt F) (oLoc d)) : sProp 𝕄 := oLoc d ↦[oRowSet w]{fullShare} f

/-- What tile `w` is handed: its row numbers, its share of the table, its block of the result at any contents; -/
abbrev goW (d : Dev nD) (w : Fin 32) : sProp 𝕄 := iprop(iRowPts ind d w ∗ tShPts tab d w ∗ ∃ f, oRowPts d w f)
/-- and what it brings back: the block of the result at the gathered rows. -/
abbrev tdW (d : Dev nD) (w : Fin 32) : sProp 𝕄 := iprop(iRowPts ind d w ∗ tShPts tab d w ∗ oRowPts d w (gout (tab d) (ind d)))

/-- The tile that subcore `i` of SparseCore `c` is. -/
def wid (c : Fin 2) (i : Fin 16) : Fin 32 := ⟨i.val * 2 + c.val, by omega⟩

theorem nCore_zero : (K (F := F)).nCore 0 = 2 := rfl
theorem nSub_zero : (K (F := F)).nSub 0 = 16 := rfl

/-- Each SparseCore is handed its sixteen tiles' parts, and each tile its own. -/
def P : (K (F := F)).Pay (nD := nD) (Val := Elt F) (Name := ℕ) (U := UU) where
  st := fun q d c => match q with | 0 => bigSep Finset.univ fun i : Fin 16 => goW tab ind d (wid (Fin.cast nCore_zero c) i)
  dn := fun q d c => match q with | 0 => bigSep Finset.univ fun i : Fin 16 => tdW tab ind d (wid (Fin.cast nCore_zero c) i)
  go := fun q d c i => match q with | 0 => goW tab ind d (wid (Fin.cast nCore_zero c) (Fin.cast nSub_zero i))
  td := fun q d c i => match q with | 0 => tdW tab ind d (wid (Fin.cast nCore_zero c) (Fin.cast nSub_zero i))
  x := fun _ _ => iprop(emp)

instance P_storable : (P (F := F) tab ind).IsStorable where
  st q d c := match q with
    | 0 => (inferInstance : BI.Storable (upEmb : UEmb _ 𝕄) (bigSep Finset.univ fun i : Fin 16 => goW tab ind d (wid (Fin.cast nCore_zero c) i)))
  dn q d c := match q with
    | 0 => (inferInstance : BI.Storable (upEmb : UEmb _ 𝕄) (bigSep Finset.univ fun i : Fin 16 => tdW tab ind d (wid (Fin.cast nCore_zero c) i)))
  go q d c i := match q with
    | 0 => (inferInstance : BI.Storable (upEmb : UEmb _ 𝕄) (goW tab ind d (wid (Fin.cast nCore_zero c) (Fin.cast nSub_zero i))))
  td q d c i := match q with
    | 0 => (inferInstance : BI.Storable (upEmb : UEmb _ 𝕄) (tdW tab ind d (wid (Fin.cast nCore_zero c) (Fin.cast nSub_zero i))))

end Pay

/-! ## One tile's task -/

section Tile

variable [FloatOps F] (tab : Dev nD → S8192x128.Idx → Elt F .f32) (ind : Dev nD → S8192.Idx → BitVec 32)
variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The tile at the grid point. -/
abbrev wL (L : grid1.Coords) : Fin 32 := wid (Fin.cast bound_zero (L 0)) (Fin.cast bound_one (L 1))

abbrev irowK (L : grid1.Coords) : Rect S8192 := Rect.unit (s := S8192) (k1_off1 L) S256.size (k1_off1_inb L)
abbrev orowK (L : grid1.Coords) : Rect S8192x128 := Rect.unit (s := S8192x128) (k1_off2 L) S256x128.size (k1_off2_inb L)
/-- The tile's row numbers, its block of the result and the whole table, as the task addresses them. -/
abbrev iRowK (L : grid1.Coords) : Memref sig .scVector .hbm S256 .i32 := (iV).slice (irowK L) (fun _ => rfl)
abbrev oRowK (L : grid1.Coords) : Memref sig .scVector .hbm S256x128 .f32 := (oV).slice (orowK L) (fun _ => rfl)
abbrev tAllK : Memref sig .scVector .hbm S8192x128 .f32 := (tV).slice (Rect.unit (s := S8192x128) ![0, 0] S8192x128.size inb_S8192x128_S8192x128_0_0) (fun _ => rfl)

theorem irowK_eq : irowK L = irow (wL L) := by
  unfold irowK irow Rect.part Rect.block
  congr 1 <;> funext a
  · rw [k1_off1_eq]
    match a with
    | 0 =>
      show 512 * (L 1).val + 256 * (L 0).val = ((L 1).val * 2 + (L 0).val) * (8192 / 32)
      omega
  · match a with
    | 0 => simp [Shape.partSize]
theorem orowK_eq : orowK L = orow (wL L) := by
  unfold orowK orow Rect.part Rect.block
  congr 1 <;> funext a
  · rw [k1_off2_eq]
    match a with
    | 0 =>
      show 512 * (L 1).val + 256 * (L 0).val = ((L 1).val * 2 + (L 0).val) * (8192 / 32)
      omega
    | 1 => simp [Shape.partIx, Shape.partSize]
  · match a with
    | 0 => simp [Shape.partSize]
    | 1 => simp [Shape.partSize]

theorem set_iRowK : (iRowK L).view.set = iRowSet (wL L) := by
  show ((iV).view.slice (irowK L)).set = ((iV).view.slice (irow (wL L))).set
  exact irowK_eq L ▸ rfl
theorem set_oRowK : (oRowK L).view.set = oRowSet (wL L) := by
  show ((oV).view.slice (orowK L)).set = ((oV).view.slice (orow (wL L))).set
  exact orowK_eq L ▸ rfl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_tV (q : PosShare TreeShare) (f : Buf (Elt F) (tLoc d)) :
    ((tV).view.loc (V d (cV L) (jV L)) ↦{q} f : sProp 𝕄) = tLoc d ↦{q} f := rfl
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

abbrev cAcell (d : Dev nD) (c : Fin τ.nSC) (i : Fin τ.nSub) : GSem nD τ sig := (V d c i, .dma cc1_scratch2.sem)
abbrev cBcell (d : Dev nD) (c : Fin τ.nSC) (i : Fin τ.nSub) : GSem nD τ sig := (V d c i, .dma cc1_scoped0.sem)
abbrev cCcell (d : Dev nD) (c : Fin τ.nSC) (i : Fin τ.nSub) : GSem nD τ sig := (V d c i, .dma cc1_scoped1.sem)

/-- The three transfer semaphores are among the subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

/-- The two scratch buffers are among the subcore's own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- What the fetch leaves in the tile's list: its 256 row numbers. -/
theorem list_read (fs : Buf (Elt F) ((V d (cV L) (jV L)).loc cc1_scratch0)) (pay : S256.Idx → Elt F .i32)
    (hpay : pay = (iRowK L).view.read (Elt F) (ind d : Buf (Elt F) (iLoc d))) (x : S256.Idx) :
    (sV).view.read (Elt F) (View.write (Elt F) (sV).view fs pay Finset.univ) x = ind d ((iRowK L).view.emb x) := by
  subst hpay
  rw [View.write_whole_univ]
  simp only [Memref.view_whole, View.read_whole]
  exact (View.read_apply _ _).trans (cast_eq _ _)

/-- Each of them names a row of the table. -/
theorem list_inb (hind : ∀ d j, (ind d j).toNat < 8192) (fs : Buf (Elt F) ((V d (cV L) (jV L)).loc cc1_scratch0)) (pay : S256.Idx → Elt F .i32)
    (hpay : pay = (iRowK L).view.read (Elt F) (ind d : Buf (Elt F) (iLoc d))) :
    ∀ x, ((sV).view.read (Elt F) (View.write (Elt F) (sV).view fs pay Finset.univ) x).toNat < S8192x128.size gathers_S8192x128_S256x128.axis := by
  intro x; rw [list_read ind d L fs pay hpay x]; exact hind d _

/-- A position of the padded codebook is its row and its column. -/
theorem tIx_eq (x : S8192x128.Idx) : x = tIx (x 0) (x 1) := by
  funext a
  match a with
  | 0 => rfl
  | 1 => rfl
theorem lIx_eq (x : S8192.Idx) : x = lIx (x 0) := by
  funext a
  match a with
  | 0 => rfl

/-- The rows the stream delivers are the rows of the result at the tile's block. -/
theorem gather_val (hind : ∀ d j, (ind d j).toNat < 8192) (fs : Buf (Elt F) ((V d (cV L) (jV L)).loc cc1_scratch0)) (pay : S256.Idx → Elt F .i32)
    (hpay : pay = (iRowK L).view.read (Elt F) (ind d : Buf (Elt F) (iLoc d)))
    (hin : ∀ x, ((sV).view.read (Elt F) (View.write (Elt F) (sV).view fs pay Finset.univ) x).toNat < S8192x128.size gathers_S8192x128_S256x128.axis)
    (hn : S256.numel = S256x128.size gathers_S8192x128_S256x128.axis') (x : S256x128.Idx) :
    SparseCore.gatherPayload gathers_S8192x128_S256x128 ((tAllK).view.read (Elt F) (tab d : Buf (Elt F) (tLoc d)))
        (SparseCore.rows ((sV).view.read (Elt F) (View.write (Elt F) (sV).view fs pay Finset.univ)) hn hin) x
      = gout (tab d) (ind d) ((oRowK L).view.emb x) := by
  have hr : (tAllK).view.read (Elt F) (tab d : Buf (Elt F) (tLoc d)) = tab d := by
    funext j
    refine ((View.read_apply _ _).trans (cast_eq _ _)).trans (congrArg (tab d) ?_)
    funext a
    apply Fin.ext
    match a with
    | 0 => show 0 + 1 * (j 0).val = (j 0).val; omega
    | 1 => show 0 + 1 * (j 1).val = (j 1).val; omega
  rw [hr]
  unfold SparseCore.gatherPayload gout
  refine congrArg (tab d) ?_
  rw [tIx_eq (Shape.Gathers.idx _ _ x)]
  congr 1
  · refine (Shape.Gathers.idx_axis gathers_S8192x128_S256x128 _ x).trans (Fin.ext ?_)
    unfold SparseCore.rows
    show ((sV).view.read (Elt F) (View.write (Elt F) (sV).view fs pay Finset.univ) _).toNat = _
    rw [list_read ind d L fs pay hpay]
    show _ = (ind d _).toNat % 8192
    rw [Nat.mod_eq_of_lt (hind d _)]
    refine congrArg (fun z => (ind d z).toNat) ?_
    rw [lIx_eq ((iRowK L).view.emb _)]
    refine congrArg lIx (Fin.ext ?_)
    show (k1_off1 L) 0 + 1 * _ = (k1_off2 L) 0 + 1 * (x 0).val
    rw [k1_off1_eq, k1_off2_eq]
    refine congrArg (fun z => _ + 1 * z) ?_
    have e := Shape.rowMajor_val_one (S256.rowMajor.symm ((x gathers_S8192x128_S256x128.axis').cast hn.symm))
    erw [Equiv.apply_symm_apply] at e
    exact e.symm
  · refine Fin.ext ((Shape.Gathers.idx_of_ne gathers_S8192x128_S256x128 _ x 1 (by decide)).trans ?_)
    show (x 1).val = (k1_off2 L) 1 + 1 * (x 1).val
    rw [k1_off2_eq]
    show (x 1).val = 0 + 1 * (x 1).val
    omega

/-- The block the copy out leaves, at the rows the stream delivered. -/
theorem out_val (fo : Buf (Elt F) (oLoc d)) (pay : S256x128.Idx → Elt F .f32)
    (h : ∀ x, pay x = gout (tab d) (ind d) ((oRowK L).view.emb x)) :
    ∀ i ∈ (oRowK L).view.set, (oRowK L).view.writes (Elt F) fo [⟨Rect.whole S256x128, pay⟩] i = gout (tab d) (ind d) i := by
  intro i hi
  obtain ⟨x, -, rfl⟩ := Finset.mem_map.mp hi
  have e := congrFun (View.read_writes_whole (Val := Elt F) (oRowK L).view fo pay) x
  exact (((View.read_apply _ _).trans (cast_eq _ _)).symm.trans e).trans (h x)

set_option maxHeartbeats 4000000 in
theorem tile_body (hF : (K (F := F)).Facts) (hind : ∀ d j, (ind d j).toNat < 8192) (O : CellTallies nD τ sig (HIx 1)) (W : Waits sig (HIx 1)) (hO : ∀ g, O g none = 0) :
    iprop(levAts (K (F := F)).L (K (F := F)).lev ∗ emp ∗ goW tab ind d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L tV (Memref.isWhole_whole _) iV (Memref.isWhole_whole _) oV (Memref.isWhole_whole _)
            sV (Memref.isWhole_whole _) rV (Memref.isWhole_whole _) cc1_scratch2 cc1_scoped0 cc1_scoped1)
          fun _ => iprop(tdW tab ind d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_body_eq_skeleton]; unfold cc1__sc_gather_body_skel
  rw [(K (F := F)).scopedBufs_V hF d (cV L) (jV L), SparseCore.Cfg.scopedSems0_V (Val := Elt F) d (cV L) (jV L), ownSems0_V, ownBufs_V]
  iintro ⟨#Hlv, -, ⟨Hi, Ht, ⟨%fo, Ho⟩⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  have hin := list_inb (F := F) ind d L hind fs (tile_body.sl.dma0 ind d L) rfl
  sl_exec
  sl_step
  have hv : ∀ i ∈ (oRowK L).view.set, (oRowK L).view.writes (Elt F) fo [⟨Rect.whole S256x128, tile_body.sl.dma0_1 tab ind d L fs fr hin⟩] i
      = gout (tab d) (ind d) i := by
    refine out_val tab ind d L fo _ fun x => ?_
    refine (congrFun (View.read_writes_whole (Val := Elt F) (rV).view fr _) x).trans ?_
    exact gather_val tab ind d L hind fs _ rfl hin _ x
  ihave Ho' := (Entails.of_eq (pointsTo_congr (Ix := HIx 1) (Name := ℕ) (U := UU) (Lvl := ℕ) (q := fullShare) hv)) $$ Ho'
  isplitl [Hi' Ht' Ho']
  · isplitl [Hi']; · iapply (Entails.of_eq (pts_iRowK (F := F) d L _)); iexact Hi'
    isplitl [Ht']; · iexact Ht'
    iapply (Entails.of_eq (pts_oRowK (F := F) d L _)); iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation of the launch -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_gather_body (coordsV c s)
          tV (Memref.isWhole_whole _) iV (Memref.isWhole_whole _) oV (Memref.isWhole_whole _)
          sV (Memref.isWhole_whole _) rV (Memref.isWhole_whole _) cc1_scratch2 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hind : ∀ d j, (ind d j).toNat < 8192) : (K (F := F)).TileObl (D (F := F)) 𝒱 (P tab ind) v₀ 0 := by
  intro d c i O W hO _ _
  simp only [show (P (F := F) tab ind).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tab ind d (coordsV ⟨_, hci.1⟩ ⟨_, hci.2⟩) hF hind O W hO).trans (wp_mono frame _ _ fun _ => obl_post)

end Tile

/-! ## Splitting the operands among the tiles, and joining them again -/

section Split

theorem iRowSet_eq (w : Fin 32) : iRowSet w = (irow w).set := by
  show ((View.whole (main_v4_scv : Ref sig .scVector)).slice (irow w)).set = _
  rw [View.set_slice]; exact Finset.map_refl
theorem oRowSet_eq (w : Fin 32) : oRowSet w = (orow w).set := by
  show ((View.whole (main_v5_scv : Ref sig .scVector)).slice (orow w)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

variable [FloatOps F] (tab : Dev nD → S8192x128.Idx → Elt F .f32) (ind : Dev nD → S8192.Idx → BitVec 32)

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
theorem tPts_shares (d : Dev nD) (f : Buf (Elt F) (tLoc d)) :
    (tLoc d ↦{fullShare} f : sProp 𝕄) = bigSep Finset.univ fun w : Fin 32 => tLoc d ↦{tq w} f :=
  ShareLeaves.pointsTo_leaves Finset.univ f 5 fullShare

/-- A SparseCore and a subcore of it make a tile, each tile once. -/
def widEquiv : Fin 2 × Fin 16 ≃ Fin 32 where
  toFun p := wid p.1 p.2
  invFun w := (⟨w.val % 2, by omega⟩, ⟨w.val / 2, by omega⟩)
  left_inv p := by
    obtain ⟨c, i⟩ := p
    refine Prod.ext (Fin.ext ?_) (Fin.ext ?_)
    · show (i.val * 2 + c.val) % 2 = c.val; omega
    · show (i.val * 2 + c.val) / 2 = i.val; omega
  right_inv w := Fin.ext (by show w.val / 2 * 2 + w.val % 2 = w.val; omega)

theorem bigSep_tiles (Φ : Fin 32 → sProp 𝕄) :
    (bigSep Finset.univ fun c : Fin ((K (F := F)).nCore 0) => bigSep Finset.univ fun i : Fin 16 => Φ (wid (Fin.cast nCore_zero c) i))
      = bigSep Finset.univ Φ := by
  rw [bigSep_univ_equiv widEquiv Φ, bigSep_univ_prod]
  exact bigSep_congr fun _ _ => rfl

theorem oRows_any (d : Dev nD) (f : Buf (Elt F) (oLoc d)) :
    (bigSep Finset.univ fun w : Fin 32 => oLoc d ↦[oRowSet w]{fullShare} f : sProp 𝕄) ⊢ bigSep Finset.univ fun w : Fin 32 => iprop(∃ g, oRowPts d w g) := by
  exact bigSep_mono fun w _ => show (oLoc d ↦[oRowSet w]{fullShare} f : sProp 𝕄) ⊢ iprop(∃ g, oRowPts d w g) from by
    iintro H; iexists f; iexact H

/-- What the call takes, from the list, the codebook and the result whole; -/
theorem st0_of (d : Dev nD) :
    iprop((iLoc d ↦{fullShare} (ind d : Buf (Elt F) (iLoc d))) ∗ (tLoc d ↦{fullShare} (tab d : Buf (Elt F) (tLoc d))) ∗ (∃ f, oLoc d ↦{fullShare} f))
      ⊢ (bigSep Finset.univ fun c : Fin ((K (F := F)).nCore 0) => (P tab ind).st 0 d c : sProp 𝕄) := by
  show _ ⊢ (bigSep Finset.univ fun c : Fin ((K (F := F)).nCore 0) => bigSep Finset.univ fun i : Fin 16 => goW tab ind d (wid (Fin.cast nCore_zero c) i))
  rw [bigSep_tiles (F := F) (fun w => goW tab ind d w), bigSep_sep', bigSep_sep', iPts_rows, tPts_shares]
  iintro ⟨Hi, Ht, ⟨%f, Ho⟩⟩
  isplitl [Hi]; · iexact Hi
  isplitl [Ht]; · iexact Ht
  ihave Ho' := (Entails.of_eq (oPts_rows (F := F) d f)) $$ Ho
  iapply (oRows_any (F := F) d f) $$ Ho'

/-- and what it gives back, the result at the gathered rows. -/
theorem dn0_to (d : Dev nD) :
    (bigSep Finset.univ fun c : Fin ((K (F := F)).nCore 0) => (P tab ind).dn 0 d c : sProp 𝕄)
      = iprop((iLoc d ↦{fullShare} (ind d : Buf (Elt F) (iLoc d))) ∗ (tLoc d ↦{fullShare} (tab d : Buf (Elt F) (tLoc d)))
        ∗ oLoc d ↦{fullShare} (gout (tab d) (ind d) : Buf (Elt F) (oLoc d))) := by
  show (bigSep Finset.univ fun c : Fin ((K (F := F)).nCore 0) => bigSep Finset.univ fun i : Fin 16 => tdW tab ind d (wid (Fin.cast nCore_zero c) i)) = _
  rw [bigSep_tiles (F := F) (fun w => tdW tab ind d w), bigSep_sep', bigSep_sep', iPts_rows, tPts_shares, oPts_rows]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's part is its tiles' parts. -/
theorem vecSplit : (K (F := F)).VecSplit' (P tab ind) 0 := by
  intro d c
  show (bigSep Finset.univ fun i : Fin 16 => goW tab ind d (wid (Fin.cast nCore_zero c) i)) ⊢ |={Set.univ}=> iprop(
      (bigSep Finset.univ fun i : Fin ((K (F := F)).nSub 0) => goW tab ind d (wid (Fin.cast nCore_zero c) (Fin.cast nSub_zero i)))
      ∗ ((bigSep Finset.univ fun i : Fin ((K (F := F)).nSub 0) => tdW tab ind d (wid (Fin.cast nCore_zero c) (Fin.cast nSub_zero i)))
          -∗ bigSep Finset.univ fun i : Fin 16 => tdW tab ind d (wid (Fin.cast nCore_zero c) i)))
  rw [bigSep_tasks (F := F) (fun i => goW tab ind d (wid (Fin.cast nCore_zero c) i)), bigSep_tasks (F := F) (fun i => tdW tab ind d (wid (Fin.cast nCore_zero c) i))]
  iintro H; imodintro
  isplitl [H]; · iexact H
  iintro H; iexact H

end Split

end Cert.Proof.Task
-- ==== Proof.Body.lean ====
/-
  The TensorCore call's body at one grid point: from a block of 512 input rows and the whole codebook it writes the
  512 row numbers of the nearest codewords, and adds the block's sum of least distances to a running total.
-/
module

public import proofs.«01_k».proof.Proof.Task
public import proofs.«01_k».proof.Proof.Gen.KernelIdeal.Launch
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.VecWindow

@[expose] public section

set_option maxRecDepth 16384

noncomputable section

namespace Cert.Proof.Body

open Cert.KernelIdeal Cert.KernelIdeal.Gen Cert.Proof.Task

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-! ## What the body stores -/

/-- The row numbers a point writes, from its input block `x` and the codebook `w`. -/
def idxBlk (x : Vec F S512x32 .f32) (w : Vec F S8192x32 .f32) : Vec F S1x1x512 .i32 :=
  k0_pay5 (k0_pay8 x w) (k0_pay16 x w) (k0_pay17 x w) (k0_pay18 x w) (k0_pay19 x w) (k0_pay20 x w) (k0_pay21 x w)
    (k0_pay22 x w)

/-- The sum of the least distances of one block. -/
def sseBlk (x : Vec F S512x32 .f32) (w : Vec F S8192x32 .f32) : Vec F S1x1 .f32 :=
  k0_pay6 (k0_pay8 x w) (k0_pay16 x w) (k0_pay19 x w) (k0_pay20 x w) (k0_pay21 x w)

/-- The running total after a block, from what it was before. -/
def sseAdd (x : Vec F S512x32 .f32) (w : Vec F S8192x32 .f32) (acc : Vec F S1x1 .f32) : Vec F S1x1 .f32 :=
  k0_pay7 (k0_pay8 x w) (k0_pay16 x w) (k0_pay19 x w) (k0_pay20 x w) (k0_pay21 x w) acc

/-! ## The two conditions -/

/-- The first condition holds at the first point alone. -/
theorem first_iff : ∀ t : Fin grid0.N, k0_cond1 (grid0.coords t) = 1#1 ↔ t.val = 0 := by decide +kernel
/-- The second at every other point. -/
theorem later_iff : ∀ t : Fin grid0.N, k0_cond2 (grid0.coords t) = 1#1 ↔ 1 ≤ t.val := by decide +kernel

/-! ## The body's run -/

section Runs

variable (c : Dev nD) (i : grid0.Coords) (arg1 : Memref sig .tc .vmem S512x32 .f32) (harg1 : arg1.IsWhole)
  (arg2 : Memref sig .tc .vmem S8192x32 .f32) (harg2 : arg2.IsWhole) (arg3 : Memref sig .tc .vmem S1x1x512 .i32)
  (harg3 : arg3.IsWhole) (arg4 : Memref sig .tc .vmem S1x1 .f32) (harg4 : arg4.IsWhole)

omit [FloatOps F] in
/-- A load of the whole of the input block's buffer reads the block. -/
theorem load_x (x0 : Vec F S512x32 .f32) :
    View.readAt (Elt F) arg1.view (Rect.unit (s := S512x32) ![0, 0] S512x32.size inb_S512x32_S512x32_0_0).toLoadRect
      (harg1.unread x0) = x0 :=
  (View.readAt_full arg1.view _ _).trans (harg1.read_unread _)

omit [FloatOps F] in
/-- A load of the whole of the codebook's buffer reads the codebook. -/
theorem load_w (x1 : Vec F S8192x32 .f32) :
    View.readAt (Elt F) arg2.view (Rect.unit (s := S8192x32) ![0, 0] S8192x32.size inb_S8192x32_S8192x32_0_0).toLoadRect
      (harg2.unread x1) = x1 :=
  (View.readAt_full arg2.view _ _).trans (harg2.read_unread _)

omit [FloatOps F] in
/-- A load of the whole of the running total's buffer reads the total. -/
theorem load_acc (a : Vec F S1x1 .f32) :
    View.readAt (Elt F) arg4.view (Rect.unit (s := S1x1) ![0, 0] S1x1.size inb_S1x1_S1x1_0_0).toLoadRect
      (harg4.unread a) = a :=
  (View.readAt_full arg4.view _ _).trans (harg4.read_unread _)

set_option maxHeartbeats 1000000 in
/-- At the first point: the row numbers, and the block's sum as the total. -/
theorem run_first (hc0 : k0_cond1 i = 1#1) (hc1 : ¬ k0_cond2 i = 1#1) (x0 : Vec F S512x32 .f32) (x1 : Vec F S8192x32 .f32)
    (E : Set ℕ) (Q : PUnit → sProp 𝕄) :
    iprop(owns (c : Thread nD τ) arg1 fullShare x0 ∗ owns (c : Thread nD τ) arg2 fullShare x1
      ∗ (∃ d, owns (c : Thread nD τ) arg3 fullShare d) ∗ (∃ d, owns (c : Thread nD τ) arg4 fullShare d)
      ∗ (iprop(owns (c : Thread nD τ) arg1 fullShare x0 ∗ owns (c : Thread nD τ) arg2 fullShare x1
          ∗ owns (c : Thread nD τ) arg3 fullShare (idxBlk x0 x1) ∗ owns (c : Thread nD τ) arg4 fullShare (sseBlk x0 x1)) -∗ Q ⟨⟩))
      ⊢ wp frame (wpE (defs₀ (F := F)) Variants.none c none) E (cc0__vq_body i arg1 harg1 arg2 harg2 arg3 harg3 arg4 harg4) Q := by
  simp only [cc0__vq_body_eq_skeleton]; unfold cc0__vq_body_skel
  simp only [k0_part1_eq_skeleton]
  unfold owns
  iintro ⟨⟨%f0, %hf0, H0⟩, ⟨%f1, %hf1, H1⟩, ⟨%d2, %f2, -, H2⟩, ⟨%d3, %f3, -, H3⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_full arg3.view _ _ _ []).trans ?_
    exact congrArg₂ idxBlk (load_x arg1 harg1 x0) (load_w arg2 harg2 x1)
  iexists _; isplitr; swap; · iexact H3
  ipureintro
  refine (View.read_writes_full arg4.view _ _ _ []).trans ?_
  exact congrArg₂ sseBlk (load_x arg1 harg1 x0) (load_w arg2 harg2 x1)

set_option maxHeartbeats 1000000 in
/-- At a later point: the row numbers, and the total with the block's sum added. -/
theorem run_later (hc0 : ¬ k0_cond1 i = 1#1) (hc1 : k0_cond2 i = 1#1) (x0 : Vec F S512x32 .f32) (x1 : Vec F S8192x32 .f32)
    (a : Vec F S1x1 .f32) (E : Set ℕ) (Q : PUnit → sProp 𝕄) :
    iprop(owns (c : Thread nD τ) arg1 fullShare x0 ∗ owns (c : Thread nD τ) arg2 fullShare x1
      ∗ (∃ d, owns (c : Thread nD τ) arg3 fullShare d) ∗ owns (c : Thread nD τ) arg4 fullShare a
      ∗ (iprop(owns (c : Thread nD τ) arg1 fullShare x0 ∗ owns (c : Thread nD τ) arg2 fullShare x1
          ∗ owns (c : Thread nD τ) arg3 fullShare (idxBlk x0 x1) ∗ owns (c : Thread nD τ) arg4 fullShare (sseAdd x0 x1 a)) -∗ Q ⟨⟩))
      ⊢ wp frame (wpE (defs₀ (F := F)) Variants.none c none) E (cc0__vq_body i arg1 harg1 arg2 harg2 arg3 harg3 arg4 harg4) Q := by
  simp only [cc0__vq_body_eq_skeleton]; unfold cc0__vq_body_skel
  simp only [k0_part1_eq_skeleton]
  unfold owns
  iintro ⟨⟨%f0, %hf0, H0⟩, ⟨%f1, %hf1, H1⟩, ⟨%d2, %f2, -, H2⟩, ⟨%f3, %hf3, H3⟩, Hk⟩
  obtain rfl := harg1.eq_unread hf0; obtain rfl := harg2.eq_unread hf1; obtain rfl := harg4.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_full arg3.view _ _ _ []).trans ?_
    exact congrArg₂ idxBlk (load_x arg1 harg1 x0) (load_w arg2 harg2 x1)
  iexists _; isplitr; swap; · iexact H3
  ipureintro
  refine (View.read_writes_full arg4.view _ _ _ []).trans ?_
  exact congr (congrArg₂ sseAdd (load_x arg1 harg1 x0) (load_w arg2 harg2 x1)) (load_acc arg4 harg4 a)

end Runs

end Cert.Proof.Body
-- ==== Proof.Region.lean ====
/-
  The TensorCore call: sixteen grid points over the staging pipeline, from any contents of the TensorCore's buffers.
  At each point the block of row numbers is written; the running total is carried from point to point and written
  back at the last. Stated with what the core owes the SparseCores throughout, so that it can be run before the
  SparseCore call of the same program.
-/
module

public import proofs.«01_k».proof.Proof.Body
public import Idealize.ShloMosaic.Lib.Pipeline.RegionsLoop

@[expose] public section

set_option maxRecDepth 16384

noncomputable section

namespace Cert.Proof.Region

open Cert.KernelIdeal Cert.KernelIdeal.Gen Cert.Proof.Task Cert.Proof.Body

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-! ## Which points write the total -/

/-- The total's window is written at every point. -/
theorem live3 : ∀ t : Fin cfg0.N, cfg0.idle 3 (grid0.coords t) = false := by decide +kernel

/-- Whether the total's buffer holds nothing written yet, position by position. -/
def freshAt : ℕ → Bool
  | 0 => true
  | n + 1 => n == 15

theorem freshAt_step : ∀ t : Fin cfg0.N,
    freshAt (t.val + 1) = ((cfg0.win 3).flush t || (cfg0.idle 3 (cfg0.grid.coords t) && freshAt t.val)) := by decide +kernel

/-- From the second point on the total's buffer holds what the point before left. -/
theorem carried (t : Fin cfg0.N) (h : t.val ≠ 0) : cfg0.fresh 3 t.val = false := by
  rw [Pipeline.Cfg.fresh_tab cfg0 3 freshAt rfl freshAt_step t.val (Nat.le_of_lt t.isLt)]
  have hN : t.val < 16 := lt_of_lt_of_eq t.isLt N_0
  obtain ⟨n, hn⟩ := Nat.exists_eq_succ_of_ne_zero h
  rw [hn]
  show (n == 15) = false
  rw [beq_eq_false_iff_ne]; omega

/-! ## The contents point by point -/

variable (V : (c : Dev nD) → (b : Ref sig .tc) → Buf (Elt F) ((c : Thread nD τ).loc b))

/-- Input window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running total after point `n`. -/
def total (c : Dev nD) : (n : ℕ) → n < cfg0.N → Vec F S1x1 .f32
  | 0, hn => sseBlk (iblk V c 0 ⟨0, hn⟩) (iblk V c 1 ⟨0, hn⟩)
  | n + 1, hn => sseAdd (iblk V c 0 ⟨n + 1, hn⟩) (iblk V c 1 ⟨n + 1, hn⟩) (total c n (Nat.lt_of_succ_lt hn))

theorem total_first (c : Dev nD) (t : Fin cfg0.N) (h : t.val = 0) :
    total V c t.val t.isLt = sseBlk (iblk V c 0 t) (iblk V c 1 t) := by
  obtain ⟨n, hn⟩ := t
  cases n with
  | zero => rfl
  | succ n => exact absurd h (Nat.succ_ne_zero n)

theorem total_later (c : Dev nD) (t : Fin cfg0.N) (h : t.val ≠ 0) :
    total V c t.val t.isLt
      = sseAdd (iblk V c 0 t) (iblk V c 1 t) (total V c (t.val - 1) (Nat.lt_of_le_of_lt (Nat.sub_le _ _) t.isLt)) := by
  obtain ⟨n, hn⟩ := t
  cases n with
  | zero => exact absurd rfl h
  | succ n => rfl

/-- The call's proof data from contents `V`: after a point each input's buffer at its block, the row numbers' at the
    body's, the total's at the running total; throughout, the core owes what it owes the SparseCores. -/
def dat (c : Dev nD) : Dat τ (Elt F) (HIx 1) ℕ UU ℕ cfg0 c where
  A w := V c (Pipeline.arrRef spec0 w)
  after w t := match w with
    | ⟨0, _⟩ => iblk V c 0 t
    | ⟨1, _⟩ => iblk V c 1 t
    | ⟨2, _⟩ => idxBlk (iblk V c 0 t) (iblk V c 1 t)
    | ⟨3, _⟩ => total V c t.val t.isLt
  Φ _ := BI.emp
  q _ := fullShare
  owed _ := (K (F := F)).Otc c 0
  recorded _ := {p | (K (F := F)).lev (T c, p.1) p.2 ≤ 0}

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = idxBlk (iblk V c 0 t) (iblk V c 1 t) := by dsimp only [dat]
theorem after_3 (c : Dev nD) (t : Fin cfg0.N) : (dat V c).after 3 t = total V c t.val t.isLt := by dsimp only [dat]

/-- Each input's buffer holds its block when the body runs. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]) t d).trans
    (by unfold Dat.fetched Dat.blockOf iblk; rw [A_eq]; try rfl)

/-- From the second point on the total's buffer holds the total so far. -/
theorem before_3 (c : Dev nD) (t : Fin cfg0.N) (h : t.val ≠ 0) (d) :
    (dat V c).before 3 t d = total V c (t.val - 1) (Nat.lt_of_le_of_lt (Nat.sub_le _ _) t.isLt) := by
  rw [Dat.before_out_traj _ 3 rfl (fun _ _ => rfl)
      (fun t _ hi _ => absurd ((live3 t).symm.trans hi) Bool.false_ne_true) t.val t rfl d,
    if_neg (by rw [carried t h]; exact Bool.false_ne_true)]
  dsimp only [dat]

/-! ## The body at any point -/

/-- What the body is called with at point `t`, window by window. -/
def bodyPre (c : Dev nD) (t : Fin cfg0.N) : sProp 𝕄 :=
  iprop((dat V c).Φ t.castSucc ∗ (dat V c).owesAt none t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- What it returns. -/
def bodyPost (c : Dev nD) (t : Fin cfg0.N) : sProp 𝕄 :=
  iprop((dat V c).Φ t.succ ∗ (dat V c).owesAt none t.succ
    ∗ (dat V c).leavesExact 0 t ∗ (dat V c).leavesExact 1 t ∗ (dat V c).leavesExact 2 t ∗ (dat V c).leavesExact 3 t)

theorem leaves_0 (c : Dev nD) (t : Fin cfg0.N) :
    (dat V c).leavesExact 0 t = owns (c : Thread nD τ) (st0_0 t) fullShare (iblk V c 0 t) := by
  rw [← after_0]
theorem leaves_1 (c : Dev nD) (t : Fin cfg0.N) :
    (dat V c).leavesExact 1 t = owns (c : Thread nD τ) (st0_1 t) fullShare (iblk V c 1 t) := by
  rw [← after_1]
theorem leaves_2 (c : Dev nD) (t : Fin cfg0.N) :
    (dat V c).leavesExact 2 t = owns (c : Thread nD τ) (st0_2 t) fullShare (idxBlk (iblk V c 0 t) (iblk V c 1 t)) := by
  rw [← after_2]
theorem leaves_3 (c : Dev nD) (t : Fin cfg0.N) :
    (dat V c).leavesExact 3 t = owns (c : Thread nD τ) (st0_3 t) fullShare (total V c t.val t.isLt) := by
  rw [← after_3]; unfold Dat.leavesExact; rw [live3 t]

set_option maxHeartbeats 800000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, leaves_0, leaves_1, leaves_2, leaves_3]
  rw [show (dat V c).Φ t.succ = (dat V c).Φ t.castSucc from rfl,
    show (dat V c).owesAt none t.succ = (dat V c).owesAt none t.castSucc from rfl]
  by_cases h : t.val = 0
  · rw [total_first V c t h]
    iintro ⟨HΦ, Ho, ⟨%d0, H0⟩, ⟨%d1, H1⟩, ⟨%d2, H2⟩, ⟨%d3, H3⟩⟩
    iapply (run_first c (grid0.coords t) _ _ _ _ _ _ _ _ ((first_iff t).mpr h) (fun h' => by have := (later_iff t).mp h'; omega)
      (iblk V c 0 t) (iblk V c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [total_later V c t h]
    simp only [before_3 V c t h]
    iintro ⟨HΦ, Ho, ⟨%d0, H0⟩, ⟨%d1, H1⟩, ⟨%d2, H2⟩, ⟨%d3, H3⟩⟩
    iapply (run_later c (grid0.coords t) _ _ _ _ _ _ _ _ (fun h' => h ((first_iff t).mp h')) ((later_iff t).mpr (Nat.one_le_iff_ne_zero.mpr h))
      (iblk V c 0 t) (iblk V c 1 t) _ Set.univ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body table's row at a point is the body there. -/
theorem row_eq (t : Fin cfg0.N) : defs₀ (F := F) .tc cfg0.body (cfg0.bodyArgs t (cfg0.slots t)) = bodyAt0 t := by
  rfl

/-- The pipeline's body obligation. -/
theorem body_obligation (c : Dev nD) : BodyObligation (dat V c) (defs₀ (F := F)) Variants.none none Set.univ := fun t => by
  rw [bigSep_W0, bigSep_W0, row_eq]
  exact triple_restated (sound_body V c t) rfl .rfl fun _ => .rfl

/-! ## The call over the TensorCore's buffers -/

variable (adm : (p : Fin 1) → (pcfgs (F := F) p).Adm)

/-- The proof data of the program's one pipeline. -/
def pdats : (p : Fin 1) → (c : Dev nD) → Dat τ (Elt F) (HIx 1) ℕ UU ℕ (Pipeline.pin (pcfgs (F := F)) adm p) c
  | ⟨0, _⟩ => fun c => dat V c

/-- The row numbers' array after the call. -/
def idxArr (c : Dev nD) : Buf (Elt F) ((c : Thread nD τ).loc main_v1_0) := (dat V c).arrAt 2 cfg0.N
/-- The total's array after the call. -/
def sseArr (c : Dev nD) : Buf (Elt F) ((c : Thread nD τ).loc main_v1_1) := (dat V c).arrAt 3 cfg0.N

variable (Vp : (c : Dev nD) → (b : Ref sig .tc) → Buf (Elt F) ((c : Thread nD τ).loc b))

/-- What the core owes the SparseCores, and that every wait it has recorded is early. -/
abbrev debts (c : Dev nD) : sProp 𝕄 :=
  iprop(∃ W, ⌜(K (F := F)).WBelow (T c) W 0⌝ ∗ owes (T c) ((K (F := F)).Otc c 0) W)

/-- The debts are at the SparseCores' own stages. -/
theorem otc_none (c : Dev nD) (g : GSem nD τ sig) : (K (F := F)).Otc c 0 g (none : HIx 1) = 0 := by
  by_contra h
  have := SparseCore.Cfg.lev_of_Otc_pos (K := K (F := F)) (Nat.pos_of_ne_zero h)
  rw [SparseCore.Cfg.lev_none] at this
  omega

set_option backward.isDefEq.respectTransparency.types false in
/-- The call, from the TensorCore's buffers at `V` to the same at `Vp`. -/
def reg (hVp_idx : ∀ c, Vp c main_v1_0 = idxArr V c) (hVp_sse : ∀ c, Vp c main_v1_1 = sseArr V c)
    (hVp_ne : ∀ c (b : Ref sig .tc), b ≠ main_v1_0 → b ≠ main_v1_1 → Vp c b = V c b) :
    Pipeline.RegionSeg (pcfgs (F := F)) adm (pdats V adm) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ none 0 c fun w s t =>
    (K (F := F)).mayWait_none _ (otc_none c)
  pre c := iprop(unscopedBufs c (V c) ∗ debts c)
  post c := iprop(unscopedBufs c (Vp c) ∗ debts c)
  X _ := BI.emp
  Y _ := BI.emp
  Z c := iprop(Pipeline.unscopedRest (Ix := HIx 1) (Name := ℕ) (U := UU) (Lvl := ℕ) spec0 c (V c))
  hentry c := by
    rw [Pipeline.ownSems0_none]
    have hsplit := Pipeline.arrays_of_unscopedBufs (p := 0) (pcfgs (F := F)) adm (pdats V adm) launch0.win launch0.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = BI.emp from rfl]
    exact sep_elim_right.trans (sep_elim_right.trans
      (Entails.of_eq (show Pipeline.scopedRest (pcfgs (F := F) 0).spec c = (BI.emp : sProp 𝕄) from scopedRest0_eq c)))
  hout c := by
    rw [Pipeline.ownSems0_none, show (pdats V adm 0 c).Φ (Fin.last _) = BI.emp from rfl]
    rw [show Pipeline.scopedRest (pcfgs (F := F) 0).spec c = (BI.emp : sProp 𝕄) from scopedRest0_eq c]
    have h : (BI.emp : sProp 𝕄) ⊢ iprop(BI.emp ∗ BI.emp) := emp_sep_intro
    exact h.trans (sep_mono_right h)
  hexit c := by
    have hjoin := Pipeline.unscopedBufs_of_arrays (p := 0) (pcfgs (F := F)) adm (Ix := HIx 1) (Name := ℕ) (U := UU) (Lvl := ℕ) launch0.win launch0.arr_whole c
      (pdats V adm) ((pdats V adm 0 c).share_full fun _ => rfl) (V c) (Vp c) ((pdats V adm 0 c).arrAt · cfg0.N)
      (fun w => by
        fin_cases w
        · exact ((pdats V adm 0 c).arrAt_in 0 rfl _).trans (hVp_ne c main_v0 (by decide) (by decide)).symm
        · exact ((pdats V adm 0 c).arrAt_in 1 rfl _).trans (hVp_ne c main_arg1 (by decide) (by decide)).symm
        · exact (hVp_idx c).symm
        · exact (hVp_sse c).symm)
      (fun b hb => hVp_ne c b (fun h => hb (h ▸ Finset.mem_image.mpr ⟨2, Finset.mem_univ _, rfl⟩))
        (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.Proof.Region
-- ==== Proof.Main.lean ====
/-
  The whole program, at any float values: the reshape of the rows, the TensorCore call, the reshapes and the padding
  of the codebook, the SparseCore call, and the operations after it. The buffers' contents are followed from the
  launch to the end, and every device's buffers end at the contents computed here.
-/
module

public import proofs.«01_k».proof.Proof.Region
public import proofs.«01_k».proof.Proof.Gen.KernelIdeal.Launch

@[expose] public section

set_option maxRecDepth 16384

noncomputable section

namespace Cert.Proof.Main

open Cert.KernelIdeal Cert.KernelIdeal.Gen Cert.Proof.Task Cert.Proof.Body Cert.Proof.Region

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The host operations, in the program's order -/

/-- Before the TensorCore call: the rows as one matrix. -/
def ops1 : List (HloOp τ sig (Elt F)) :=
  [StableHlo.reshape main_arg0 main_v0 (rfl : (.f32 : EltTy) = .f32) shapeCasts_S8x1024x32_S8192x32]

/-- Between the calls: the row numbers as a list, the codebook padded to 128 columns. -/
def ops2 : List (HloOp τ sig (Elt F)) :=
  [StableHlo.reshape main_v1_0 main_v2 (rfl : (.i32 : EltTy) = .i32) shapeCasts_S16x1x512_S8192x1,
   StableHlo.nullary main_c (constantI S_ 32 0#32),
   StableHlo.unary main_c main_call0_v0 ((sitofp .f32) : (⟨S_, .i32⟩ : BufTy).Contents (Elt F) → (⟨S_, .f32⟩ : BufTy).Contents (Elt F)),
   StableHlo.binary main_arg1 main_call0_v0 main_v3
     ((fun x v => pad S8192x128 ![0, 0] ![0, 96] ![0, 0] x v pads_S8192x32_S8192x128_000_0960 h_S_)
       : (⟨S8192x32, .f32⟩ : BufTy).Contents (Elt F) → (⟨S_, .f32⟩ : BufTy).Contents (Elt F) → (⟨S8192x128, .f32⟩ : BufTy).Contents (Elt F)),
   StableHlo.reshape main_v2 main_v4 (rfl : (.i32 : EltTy) = .i32) shapeCasts_S8192x1_S8192]

/-- After the SparseCore call: the gathered rows' first 32 columns, and the loss. -/
def ops3 : List (HloOp τ sig (Elt F)) :=
  [StableHlo.unary main_v5 main_v6 ((extractStridedSlice S8192x32 ![0, 0] · slices_S8192x128_S8192x32_0_0) : (⟨S8192x128, .f32⟩ : BufTy).Contents (Elt F) → (⟨S8192x32, .f32⟩ : BufTy).Contents (Elt F)),
   StableHlo.reshape main_v6 main_v7 (rfl : (.f32 : EltTy) = .f32) shapeCasts_S8192x32_S8x1024x32,
   StableHlo.reshape main_v1_1 main_v8 (rfl : (.f32 : EltTy) = .f32) shapeCasts_S1x1_S_,
   StableHlo.nullary main_cst (constant S_ .f32 0x3FA00000#32),
   StableHlo.binary main_cst main_v8 main_v9 (mulf : (⟨S_, .f32⟩ : BufTy).Contents (Elt F) → (⟨S_, .f32⟩ : BufTy).Contents (Elt F) → (⟨S_, .f32⟩ : BufTy).Contents (Elt F)),
   StableHlo.nullary main_cst_0 (constant S_ .f32 0x48800000#32),
   StableHlo.binary main_v9 main_cst_0 main_v10 (Host.divf : (⟨S_, .f32⟩ : BufTy).Contents (Elt F) → (⟨S_, .f32⟩ : BufTy).Contents (Elt F) → (⟨S_, .f32⟩ : BufTy).Contents (Elt F))]

/-- The program as those lines and the two calls between them. -/
theorem main_eq (d : Dev nD) : main (F := F) d
    = (StableHlo.seq ops1 >>= fun _ =>
        SparseCore.liftProg (Prog.lift (.customCall (Pipeline.entry 0) ())) >>= fun _ =>
        StableHlo.seq ops2 >>= fun _ => (K (F := F)).run d 0 >>= fun _ => StableHlo.seq ops3 >>= fun _ => pure ⟨⟩) := by
  rfl

/-! ## The contents of the buffers along the program -/

variable (m : (ℓ : Loc nD τ sig) → Buf (Elt F) ℓ) (ρ : Dev nD → PrngReg)

/-- At the TensorCore call. -/
def V1 (d : Dev nD) : Valuation τ sig (Elt F) := StableHlo.after ops1 fun b => m (d, b)
/-- The same, buffer by buffer of the TensorCore's. -/
def U1 (d : Dev nD) (b : Ref sig .tc) : Buf (Elt F) ((d : Thread nD τ).loc b) := V1 m d b
/-- After the TensorCore call. -/
def V1' (d : Dev nD) : Valuation τ sig (Elt F) :=
  Function.update (Function.update (V1 m d) main_v1_0 (idxArr (U1 m) d)) main_v1_1 (sseArr (U1 m) d)
/-- At the SparseCore call. -/
def V2 (d : Dev nD) : Valuation τ sig (Elt F) := StableHlo.after ops2 (V1' m d)
/-- The padded codebook, -/
def tab (d : Dev nD) : S8192x128.Idx → Elt F .f32 := V2 m d main_v3
/-- and the row numbers. -/
def ind (d : Dev nD) : S8192.Idx → BitVec 32 := V2 m d main_v4
/-- After the SparseCore call. -/
def V2' (d : Dev nD) : Valuation τ sig (Elt F) := Function.update (V2 m d) main_v5 (gout (tab m d) (ind m d))
/-- At the end. -/
def V3 (d : Dev nD) : Valuation τ sig (Elt F) := StableHlo.after ops3 (V2' m d)

/-! ## The launch element of the certificate's ghost state -/

/-- The staging pipeline's component of the ghost state. -/
def EP : Emb UP (MT nD τ sig (HIx 1) (Elt F) ℕ UU ℕ) :=
  (Emb.inl : Emb UP (UP × Counters)).trans embR

instance EP_landsIn : (EP (F := F)).LandsIn (upEmb : UEmb _ (MT nD τ sig (HIx 1) (Elt F) ℕ UU ℕ)) := by unfold EP; infer_instance

abbrev adm : (p : Fin 1) → (pcfgs (F := F) p).Adm := fun p => (cfgs p).toPCfg_adm

def u₀ : UU := (initOf (K (F := F)).hsCells (K (F := F)).hsToks,
  (initOf (Pipeline.cells (nD := nD) (τ := τ) (Pipeline.pin (pcfgs (F := F)) adm) cellOf_inj) (Pipeline.launchToks (Pipeline.pin (pcfgs (F := F)) adm) cellOf_inj), 1))

/-- What each device's TensorCore starts with of the pipeline's ghost state. -/
def G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem one_pipe (Φ : Fin 1 → sProp 𝕄) : bigSep Finset.univ Φ = Φ 0 := bigSep_univ_of_subsingleton (0 : Fin 1)

omit [FloatOps F] in
theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ G)
        ∗ bigSep Finset.univ fun thr : Thread nD τ => bigSep Finset.univ fun q : Fin 1 => (P (tab m) (ind m)).x q thr) := by
  unfold u₀
  iintro Hu
  ihave H := (ownU_pair (initOf (K (F := F)).hsCells (K (F := F)).hsToks)
    (initOf (Pipeline.cells (nD := nD) (τ := τ) (Pipeline.pin (pcfgs (F := F)) adm) cellOf_inj) (Pipeline.launchToks (Pipeline.pin (pcfgs (F := F)) adm) cellOf_inj), (1 : Counters))) $$ Hu
  icases H with ⟨HH, HR⟩
  have hsp : (BI.own (embR ((initOf (Pipeline.cells (nD := nD) (τ := τ) (Pipeline.pin (pcfgs (F := F)) adm) cellOf_inj) (Pipeline.launchToks (Pipeline.pin (pcfgs (F := F)) adm) cellOf_inj), (1 : Counters)) : UP × Counters)) : sProp 𝕄)
      ⊢ iprop(BI.own (EP (initOf (Pipeline.cells (nD := nD) (τ := τ) (Pipeline.pin (pcfgs (F := F)) adm) cellOf_inj) (Pipeline.launchToks (Pipeline.pin (pcfgs (F := F)) adm) cellOf_inj)))
        ∗ BI.own (((Emb.inr : Emb Counters (UP × Counters)).trans embR) (1 : Counters))) :=
    own_pair_emb (A := UP) (B := Counters) (M' := 𝕄) embR _ _
  ihave H := hsp $$ HR
  icases H with ⟨HP, -⟩
  imod (Pipeline.fund_ghost (Pipeline.pin (pcfgs (F := F)) adm) (EP (F := F)) cellOf_inj) $$ HP with ⟨Hc, Ht⟩
  imodintro
  isplitl [HH]; · iexact HH
  isplitl [Hc Ht]
  · unfold G
    rw [bigSep_sep']
    isplitl [Hc]
    · iapply (Entails.of_eq (bigSep_congr fun c _ => one_pipe (F := F) fun p => Pipeline.cellsGhost (Pipeline.pin (pcfgs (F := F)) adm) EP p c)) $$ Hc
    · iapply (Entails.of_eq (bigSep_congr fun c _ => one_pipe (F := F) fun p => Pipeline.toksInit (Pipeline.pin (pcfgs (F := F)) adm) EP p c)) $$ Ht
  rw [show (bigSep Finset.univ fun thr : Thread nD τ => bigSep Finset.univ fun q : Fin 1 => (P (F := F) (tab m) (ind m)).x q thr) = bigSep Finset.univ fun _ => iprop(emp) from
    bigSep_congr fun _ _ => bigSep_univ_of_subsingleton (0 : Fin 1), emp_all]
  iempintro

/-! ## @main on the TensorCore -/

theorem sub1 : ∀ op ∈ ops1 (F := F), op.bufs ⊆ Pipeline.ucRefs τ sig := by
  intro op h
  refine Pipeline.sub_ucRefs op ?_
  simp only [ops1, List.mem_cons, List.not_mem_nil, or_false] at h
  subst h; exact StableHlo.reshape_bufs_sub ..

/-- The TensorCore call's record at these contents. -/
def seg : Pipeline.RegionSeg (pcfgs (F := F)) adm (pdats (U1 m) adm) none defs₀ 𝒱₀ (K (F := F)).L (K (F := F)).lev 0 :=
  reg (U1 m) adm (fun c b => V1' m c b)
    (fun c => by
      show Function.update _ _ _ _ = _
      rw [Function.update_of_ne (StableHlo.devRef_ne_of_ne (by decide)), Function.update_self])
    (fun c => by
      show Function.update _ _ _ _ = _
      rw [Function.update_self])
    (fun c b h0 h1 => by
      show Function.update _ _ _ _ = _
      rw [Function.update_of_ne (StableHlo.devRef_ne_of_ne h1), Function.update_of_ne (StableHlo.devRef_ne_of_ne h0)]
      rfl)

theorem seg_pre (d : Dev nD) : iprop(unscopedBufs d (U1 m d) ∗ debts (F := F) d) ⊢ ((seg m).pre d : sProp 𝕄) := .rfl
theorem seg_post (d : Dev nD) : ((seg m).post d : sProp 𝕄) ⊢ iprop(unscopedBufs d (fun b => V1' m d b) ∗ debts (F := F) d) := .rfl

/-- The TensorCore call, from the buffers at `U1` to the buffers at `V1'`. -/
theorem call_tc [∀ e, Nonempty (Elt F e)] (d : Dev nD) (Q : PUnit → sProp 𝕄) :
    iprop((boundary (SparseCore.T d) ∗ unscopedBufs d (fun b => V1' m d b) ∗ debts (F := F) d -∗ Q ⟨⟩)
        ∗ boundary (SparseCore.T d) ∗ unscopedBufs d (U1 m d) ∗ debts (F := F) d ∗ levAts (K (F := F)).L (K (F := F)).lev ∗ G d)
      ⊢ wp frame (wpE ((K (F := F)).defs (D (F := F))) 𝒱 (SparseCore.T d) none) Set.univ
          (SparseCore.liftProg (Prog.lift (.customCall (Pipeline.entry 0) ()))) Q := by
  unfold G
  iintro ⟨Hk, Hb, Hu, Hd, Hl, Hc, Ht⟩
  iapply ((K (F := F)).wp_liftProg (D (F := F)) 𝒱 (SparseCore.T d) Set.univ none _ Q)
  iapply (Pipeline.RegionSeg.wp (pcfgs (F := F)) adm (pdats (U1 m) adm) none cellOf_inj EP defs₀ 𝒱₀ (K (F := F)).L (K (F := F)).lev
    (seg m) d none (fun _ h => nomatch h) Prog.ret Q)
  isplitl [Hk]
  · iintro ⟨Hb, Hp⟩
    ihave Hp' := (seg_post m d) $$ Hp
    icases Hp' with ⟨Hu, Hd⟩
    rw [wp_ret]
    imodintro
    iapply Hk
    isplitl [Hb]; · iexact Hb
    isplitl [Hu]; · iexact Hu
    iexact Hd
  isplitl [Hb]; · iexact Hb
  isplitl [Hu Hd]
  · iapply (seg_pre m d)
    isplitl [Hu]; · iexact Hu
    iexact Hd
  isplitl [Hl]; · iexact Hl
  isplitl [Hc]; · iexact Hc
  iexact Ht

theorem sub2 : ∀ op ∈ ops2 (F := F), op.bufs ⊆ Pipeline.ucRefs τ sig := by
  intro op h
  refine Pipeline.sub_ucRefs op ?_
  simp only [ops2, List.mem_cons, List.not_mem_nil, or_false] at h
  rcases h with rfl | rfl | rfl | rfl | rfl
  · exact StableHlo.reshape_bufs_sub ..
  · exact StableHlo.nullary_bufs_sub ..
  · exact StableHlo.unary_bufs_sub ..
  · exact StableHlo.binary_bufs_sub ..
  · exact StableHlo.reshape_bufs_sub ..

theorem sub3 : ∀ op ∈ ops3 (F := F), op.bufs ⊆ Pipeline.ucRefs τ sig := by
  intro op h
  refine Pipeline.sub_ucRefs op ?_
  simp only [ops3, List.mem_cons, List.not_mem_nil, or_false] at h
  rcases h with rfl | rfl | rfl | rfl | rfl | rfl | rfl
  · exact StableHlo.unary_bufs_sub ..
  · exact StableHlo.reshape_bufs_sub ..
  · exact StableHlo.reshape_bufs_sub ..
  · exact StableHlo.nullary_bufs_sub ..
  · exact StableHlo.binary_bufs_sub ..
  · exact StableHlo.nullary_bufs_sub ..
  · exact StableHlo.binary_bufs_sub ..

theorem fresh1 : ∀ op ∈ ops1 (F := F), op.fresh = ∅ := by
  intro op h; simp only [ops1, List.mem_cons, List.not_mem_nil, or_false] at h; subst h; rfl
theorem fresh2 : ∀ op ∈ ops2 (F := F), op.fresh = ∅ := by
  intro op h; simp only [ops2, List.mem_cons, List.not_mem_nil, or_false] at h; rcases h with rfl | rfl | rfl | rfl | rfl <;> rfl
theorem fresh3 : ∀ op ∈ ops3 (F := F), op.fresh = ∅ := by
  intro op h; simp only [ops3, List.mem_cons, List.not_mem_nil, or_false] at h; rcases h with rfl | rfl | rfl | rfl | rfl | rfl | rfl <;> rfl

/-- The three buffers the SparseCore call works on. -/
def scRefs : Finset (DevRef τ sig) := {(main_v4 : DevRef τ sig), (main_v3 : DevRef τ sig), (main_v5 : DevRef τ sig)}

theorem scRefs_sub : scRefs ⊆ Pipeline.ucRefs τ sig := by
  intro b hb
  simp only [scRefs, Finset.mem_insert, Finset.mem_singleton] at hb
  rcases hb with rfl | rfl | rfl <;> exact Finset.mem_filter.mpr ⟨StableHlo.devRef_mem_tcRefs _, by decide⟩

theorem held_sc (d : Dev nD) (W : Valuation τ sig (Elt F)) :
    (StableHlo.held (d.tc : Thread nD τ) scRefs W : sProp 𝕄)
      = iprop((iLoc d ↦{fullShare} (W main_v4 : Buf (Elt F) (iLoc d))) ∗ (tLoc d ↦{fullShare} (W main_v3 : Buf (Elt F) (tLoc d)))
          ∗ (oLoc d ↦{fullShare} (W main_v5 : Buf (Elt F) (oLoc d)))) := by
  unfold StableHlo.held scRefs
  rw [SparseCore.bigSep_insert' (by decide), SparseCore.bigSep_insert' (by decide), bigSep_singleton]

theorem upd_sc (d : Dev nD) (b : Ref sig .tc) (h : b ≠ main_v5) : V2' m d b = V2 m d b :=
  Function.update_of_ne (StableHlo.devRef_ne_of_ne h) _ _

theorem upd_rest (d : Dev nD) : (StableHlo.held (d.tc : Thread nD τ) (Pipeline.ucRefs τ sig \ scRefs) (V2 m d) : sProp 𝕄)
    = StableHlo.held (d.tc : Thread nD τ) (Pipeline.ucRefs τ sig \ scRefs) (V2' m d) :=
  StableHlo.held_congr _ fun b hb => (Function.update_of_ne (fun h => (Finset.mem_sdiff.mp hb).2 (by rw [h]; decide)) _ _).symm

/-- The SparseCore call, over all the TensorCore's buffers. -/
theorem call_sc (κ : GSem nD τ sig → ℕ) (d : Dev nD) (Q : PUnit → sProp 𝕄) :
    iprop((K (F := F)).ctx EH (P (tab m) (ind m)) κ ∗ (K (F := F)).tcSt EH d 0 ∗ StableHlo.held (d.tc : Thread nD τ) (Pipeline.ucRefs τ sig) (V2 m d)
        ∗ ((K (F := F)).tcSt EH d 1 ∗ StableHlo.held (d.tc : Thread nD τ) (Pipeline.ucRefs τ sig) (V2' m d) -∗ Q ⟨⟩))
      ⊢ wp frame (wpE ((K (F := F)).defs (D (F := F))) 𝒱 (SparseCore.T d) none) Set.univ ((K (F := F)).run d 0) Q := by
  rw [StableHlo.held_sub_split _ scRefs_sub, StableHlo.held_sub_split _ scRefs_sub, held_sc, held_sc, ← upd_rest]
  rw [upd_sc m d main_v4 (by decide), upd_sc m d main_v3 (by decide),
    show V2' m d main_v5 = gout (tab m d) (ind m d) from Function.update_self ..]
  iintro ⟨#Hctx, Hst, ⟨⟨Hi, Ht, Ho⟩, Hrest⟩, Hk⟩
  iapply ((K (F := F)).wp_run (D (F := F)) 𝒱 (EH := EH) (P := P (tab m) (ind m)) κ d 0) $$ [Hst Hi Ht Ho Hrest Hk]
  isplitr; · iexact Hctx
  isplitl [Hst]; · iexact Hst
  isplitl [Hi Ht Ho]
  · iapply (st0_of (tab m) (ind m) d)
    isplitl [Hi]; · iexact Hi
    isplitl [Ht]; · iexact Ht
    iexists _; iexact Ho
  iintro ⟨Hst, Hdn⟩
  ihave H := (Entails.of_eq (dn0_to (tab m) (ind m) d)) $$ Hdn
  icases H with ⟨Hi, Ht, Ho⟩
  iapply Hk
  isplitl [Hst]; · iexact Hst
  isplitr [Hrest]
  · isplitl [Hi]; · iexact Hi
    isplitl [Ht]; · iexact Ht
    iexact Ho
  iexact Hrest

/-- What device `d`'s TensorCore ends with: its buffers at the final contents. -/
abbrev FIN (d : Dev nD) : sProp 𝕄 := StableHlo.held (d.tc : Thread nD τ) (Pipeline.ucRefs τ sig) (V3 m d)

/-- The state before the SparseCore call holds the debts apart. -/
theorem tcSt_debts (d : Dev nD) : ∃ R : sProp 𝕄, (K (F := F)).tcSt EH d 0 = iprop(debts (F := F) d ∗ R) := ⟨_, rfl⟩

/-- @main on device `d`'s TensorCore. -/
theorem hmain [∀ e, Nonempty (Elt F e)] (κ : GSem nD τ sig → ℕ) (d : Dev nD) :
    iprop((K (F := F)).ctx EH (P (tab m) (ind m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  obtain ⟨R, hR⟩ := tcSt_debts (F := F) d
  rw [main_eq, show unscopedBufs d (fun b => m ((SparseCore.T d).loc b)) = StableHlo.held (d.tc : Thread nD τ) (Pipeline.ucRefs τ sig) (fun b => m (d, b))
    from Pipeline.unscopedBufs_held d (fun b => m (d, b))]
  iintro ⟨#Hctx, Hst, ⟨Hb, Hh, Hts, -⟩, HG⟩
  iapply (StableHlo.wp_seq 𝒱 none Set.univ d (Pipeline.ucRefs τ sig) _ ops1 sub1 fresh1 _) $$ [Hb Hh]
  · isplitl [Hb] <;> iassumption
  iintro ⟨Hb, Hh⟩
  rw [wp_bind]
  ihave Hlev := (SparseCore.Cfg.ctx_levAts κ) $$ Hctx
  iapply (call_tc m d _)
  ihave Hst' := (Entails.of_eq hR) $$ Hst
  icases Hst' with ⟨Hd, HR⟩
  isplitr [Hb Hh Hd HG]
  · iintro ⟨Hb, Hu, Hd⟩
    ihave Hh := (Entails.of_eq (Pipeline.unscopedBufs_held d (V1' m d))) $$ Hu
    iapply (StableHlo.wp_seq 𝒱 none Set.univ d (Pipeline.ucRefs τ sig) _ ops2 sub2 fresh2 _) $$ [Hb Hh]
    · isplitl [Hb] <;> iassumption
    iintro ⟨Hb, Hh⟩
    rw [wp_bind]
    iapply (call_sc m κ d _)
    isplitr; · iexact Hctx
    isplitl [Hd HR]
    · iapply (Entails.of_eq hR.symm)
      isplitl [Hd] <;> iassumption
    isplitl [Hh]; · iexact Hh
    iintro ⟨Hst, Hh⟩
    iapply (StableHlo.wp_seq 𝒱 none Set.univ d (Pipeline.ucRefs τ sig) _ ops3 sub3 fresh3 _) $$ [Hb Hh]
    · isplitl [Hb] <;> iassumption
    iintro ⟨Hb, Hh⟩
    rw [wp_pure]
    imodintro
    isplitl [Hst]; · iexact Hst
    isplitl [Hh]; · iexact Hh
    isplitl [Hb] <;> iassumption
  isplitl [Hb]; · iexact Hb
  isplitl [Hh]
  · iapply (Entails.of_eq (show StableHlo.held (d.tc : Thread nD τ) (Pipeline.ucRefs τ sig) (StableHlo.after ops1 fun b => m (d, b)) = unscopedBufs d (U1 m d)
      from (Pipeline.unscopedBufs_held d (V1 m d)).symm)) $$ Hh
  isplitl [Hd]; · iexact Hd
  isplitl [Hlev]; · iexact Hlev
  iexact HG

/-! ## The program's run -/

/-- Device `d`'s buffers at the end. -/
def fq (d : Dev nD) (s' : Phys nD τ sig (Elt F)) : Prop := ∀ b ∈ Pipeline.ucRefs τ sig, s'.mem.mem (d, b) = V3 m d b

theorem hfin (d : Dev nD) (s' : Phys nD τ sig (Elt F)) : iprop(FIN m d ∗ SI s') ⊢ (⌜fq m d s'⌝ : sProp 𝕄) := by
  have one : ∀ x : {b // b ∈ Pipeline.ucRefs τ sig}, iprop(FIN m d ∗ SI s') ⊢ (⌜s'.mem.mem (d, x.1) = V3 m d x.1⌝ : sProp 𝕄) := by
    rintro ⟨b, hb⟩
    unfold FIN StableHlo.held
    iintro ⟨H, HSI⟩
    ihave Hb := (SparseCore.ent (bigSep_elim (Φ := fun b => (((d.tc : Thread nD τ).1, b) ↦{fullShare} V3 m d b : sProp 𝕄)) hb)) $$ H
    ihave H := (SI_pointsTo_agree (st := s') (ℓ := (d, b)) (I := Finset.univ) (q := fullShare) (f := V3 m d b)) $$ [HSI Hb]
    · isplitl [HSI] <;> iassumption
    icases H with %h2
    ipureintro; exact funext fun i => h2 i (Finset.mem_univ i)
  exact ((forall_intro one).trans pure_forall.2).trans (Laws.pure_mono fun all b hb => all ⟨b, hb⟩)

/-- Every device's buffers at the end, and every semaphore zero. -/
def QC : PUnit × MemSt nD τ sig (Elt F) → Prop := fun r => (∀ d : Dev nD, ∀ b ∈ Pipeline.ucRefs τ sig, r.2.mem (d, b) = V3 m d b) ∧ r.2.sem = fun _ => 0

/-- The program runs, when every row number names a row of the codebook. -/
theorem run_main [∀ e, Nonempty (Elt F e)] (hind : ∀ d j, (ind m d j).toNat < 8192) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tab m) (ind m)) (A := ∅) facts v₀
    (fun q hq => match q with | 0 => nomatch hq)
    (fun q _ => match q with | 0 => tileObl (tab m) (ind m) facts hind)
    (fun q _ => match q with | 0 => SparseCore.Cfg.VecSplit.of_plain (vecSplit (tab m) (ind m)))
    m ρ main G (FIN m) (u₀ (F := F)) (sep_elim_left.trans (hu₀ m)) (hmain m ρ) (fq m) (hfin m) (QC m) (fun _ h hz => ⟨h, hz⟩)

end Cert.Proof.Main
-- ==== Proof.Blocks.lean ====
/-
  Where the TensorCore call's blocks lie in the arrays: grid point `t` reads rows `512 t` to `512 t + 511` and the whole
  codebook, and its row numbers are row `t` of the result; the total is what the last point leaves.
-/
module

public import proofs.«01_k».proof.Proof.Region
public import Idealize.ShloMosaic.Lib.Pipeline.Value
public import Idealize.ShloMosaic.Lib.Pointwise.Index

@[expose] public section

set_option maxRecDepth 16384

noncomputable section

namespace Cert.Proof.Blocks

open Cert.KernelIdeal Cert.KernelIdeal.Gen Cert.Proof.Body Cert.Proof.Region
open Idealize.ShloMosaic Idealize.ShloMosaic.TcCoe
open Idealize.ShloMosaic.Pipeline (Dat)

variable {F : FTy → Type} [FloatOps F]
variable (V : (c : Dev nD) → (b : Ref sig .tc) → Buf (Elt F) ((c : Thread nD τ).loc b)) (c : Dev nD)

/-- Grid point `t`. -/
def pt (t : Fin 16) : Fin cfg0.N := ⟨t.val, lt_of_lt_of_eq t.isLt N_0.symm⟩

theorem index2_inj : ∀ t t' : Fin cfg0.N, win0_2.index t = win0_2.index t' → t = t' :=
  (by decide +kernel : ∀ t t' : Fin grid0.N, win0_2.index t = win0_2.index t' → t = t')

theorem apart2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (index2_inj t t' h)

theorem apart3 : ∀ t t' : Fin cfg0.N, (cfg0.win 3).flush t = true → (cfg0.win 3).flush t' = true → t ≠ t' →
    Disjoint ((cfg0.win 3).blk t).view.set ((cfg0.win 3).blk t').view.set := fun t t' h h' hne => by
  have e := (flush0_3 t).mp h
  have e' := (flush0_3 t').mp h'
  have l : t.val < 16 := lt_of_lt_of_eq t.isLt N_0
  have l' : t'.val < 16 := lt_of_lt_of_eq t'.isLt N_0
  exact absurd (Fin.ext (by omega)) hne

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem index3 : ∀ t : Fin cfg0.N, win0_3.index t 0 = 0 ∧ win0_3.index t 1 = 0 :=
  (by decide +kernel : ∀ t : Fin grid0.N, win0_3.index t 0 = 0 ∧ win0_3.index t 1 = 0)

/-- The row numbers: row `t` of the array is grid point `t`'s block. -/
theorem idxArr_apply (t : Fin 16) (r : Fin 512) :
    idxArr V c (ix3 t 0 r : S16x1x512.Idx) = idxBlk (iblk V c 0 (pt t)) (iblk V c 1 (pt t)) (ix3 0 0 r) := by
  have h := (dat V c).arrAt_emb_eq_flushed 2 apart2 (pt t) (flush0_2 (pt t)) (ix3 0 0 r : S1x1x512.Idx)
  have e : ((cfg0.win 2).blk (pt t)).view.emb (ix3 0 0 r : S1x1x512.Idx) = (ix3 t 0 r : S16x1x512.Idx) := by
    obtain ⟨h0, h1, h2⟩ := index2 (pt t)
    funext a
    apply Fin.ext
    refine (Pipeline.Window.rect_emb_val win0_2 (pt t) (ix3 0 0 r : S1x1x512.Idx) a).trans ?_
    match a with
    | ⟨0, _⟩ => refine (congrArg (fun n => n * 1 + 0) h0).trans ?_; simp [pt, ix3]
    | ⟨1, _⟩ => refine (congrArg (fun n => n * 1 + 0) h1).trans ?_; simp [ix3]
    | ⟨2, _⟩ => refine (congrArg (fun n => n * 512 + r.val) h2).trans ?_; simp [ix3]
  rw [e] at h
  refine h.trans ?_
  show (dat V c).after 2 (pt t) (ix3 0 0 r : S1x1x512.Idx) = _
  rw [after_2]

/-- The total: what grid point 15 leaves. -/
theorem sseArr_apply : sseArr V c (ix2 0 0 : S1x1.Idx) = total V c 15 (lt_of_lt_of_eq (by decide) N_0.symm) (ix2 0 0) := by
  have h := (dat V c).arrAt_emb_eq_flushed 3 apart3 (pt 15) ((flush0_3 (pt 15)).mpr (by decide)) (ix2 0 0 : S1x1.Idx)
  have e : ((cfg0.win 3).blk (pt 15)).view.emb (ix2 0 0 : S1x1.Idx) = (ix2 0 0 : S1x1.Idx) := by
    obtain ⟨h0, h1⟩ := index3 (pt 15)
    funext a
    apply Fin.ext
    refine (Pipeline.Window.rect_emb_val win0_3 (pt 15) (ix2 0 0 : S1x1.Idx) a).trans ?_
    match a with
    | ⟨0, _⟩ => refine (congrArg (fun n => n * 1 + 0) h0).trans ?_; simp [ix2]
    | ⟨1, _⟩ => refine (congrArg (fun n => n * 1 + 0) h1).trans ?_; simp [ix2]
  rw [e] at h
  refine h.trans ?_
  show (dat V c).after 3 (pt 15) (ix2 0 0 : S1x1.Idx) = _
  rw [after_3]; rfl

/-- The rows that grid point `t` reads. -/
theorem iblk0_apply (t : Fin 16) (r : Fin 512) (k : Fin 32) :
    iblk V c 0 (pt t) (ix2 r k : S512x32.Idx) = V c main_v0 (ix2 ⟨512 * t.val + r.val, by have := t.isLt; have := r.isLt; omega⟩ k : S8192x32.Idx) := by
  have e : ((cfg0.win 0).blk (pt t)).view.emb (ix2 r k : S512x32.Idx)
      = (ix2 ⟨512 * t.val + r.val, by have := t.isLt; have := r.isLt; omega⟩ k : S8192x32.Idx) := by
    obtain ⟨h0, h1⟩ := index0 (pt t)
    funext a
    apply Fin.ext
    refine (Pipeline.Window.rect_emb_val win0_0 (pt t) (ix2 r k : S512x32.Idx) a).trans ?_
    match a with
    | ⟨0, _⟩ => refine (congrArg (fun n => n * 512 + r.val) h0).trans ?_; simp [pt, ix2, Nat.mul_comm]
    | ⟨1, _⟩ => refine (congrArg (fun n => n * 32 + k.val) h1).trans ?_; simp [ix2]
  unfold iblk
  rw [View.read_apply]
  refine Eq.trans ?_ (congrArg (V c main_v0) e)
  rfl

/-- The codebook that grid point `t` reads: all of it. -/
theorem iblk1_apply (t : Fin 16) (r : Fin 8192) (k : Fin 32) :
    iblk V c 1 (pt t) (ix2 r k : S8192x32.Idx) = V c main_arg1 (ix2 r k : S8192x32.Idx) := by
  have e : ((cfg0.win 1).blk (pt t)).view.emb (ix2 r k : S8192x32.Idx) = (ix2 r k : S8192x32.Idx) := by
    obtain ⟨h0, h1⟩ := index1 (pt t)
    funext a
    apply Fin.ext
    refine (Pipeline.Window.rect_emb_val win0_1 (pt t) (ix2 r k : S8192x32.Idx) a).trans ?_
    match a with
    | ⟨0, _⟩ => refine (congrArg (fun n => n * 8192 + r.val) h0).trans ?_; simp [ix2]
    | ⟨1, _⟩ => refine (congrArg (fun n => n * 32 + k.val) h1).trans ?_; simp [ix2]
  unfold iblk
  rw [View.read_apply]
  refine Eq.trans ?_ (congrArg (V c main_arg1) e)
  rfl

end Cert.Proof.Blocks
-- ==== Proof.Ends.lean ====
/-
  What the program's buffers hold at the end, as terms of the arguments and of the two calls' results.
-/
module

public import proofs.«01_k».proof.Proof.Main
public import proofs.«01_k».proof.Proof.Blocks
public import Idealize.ShloMosaic.Lib.StableHlo.RunRead

@[expose] public section

set_option maxRecDepth 16384

noncomputable section

namespace Cert.Proof.Ends

open Cert.KernelIdeal Cert.KernelIdeal.Gen Cert.Proof.Task Cert.Proof.Body Cert.Proof.Region Cert.Proof.Main Cert.Proof.Blocks
open Idealize.ShloMosaic Idealize.ShloMosaic.TcCoe

variable {F : FTy → Type} [FloatOps F]
variable (m : (ℓ : Loc nD τ sig) → Buf (Elt F) ℓ) (d : Dev nD)

/-- The first argument's rows, one per row of the matrix that the TensorCore call reads. -/
def rows : S8192x32.Idx → Elt F .f32 := shapeCast S8192x32 (m (d, Proc.devRef .tc main_arg0)) shapeCasts_S8x1024x32_S8192x32
/-- The codebook. -/
def codes : S8192x32.Idx → Elt F .f32 := m (d, Proc.devRef .tc main_arg1)

theorem U1_rows : U1 m d main_v0 = rows m d := by
  unfold U1 V1 ops1
  after_reads_simp
  rfl
theorem U1_codes : U1 m d main_arg1 = codes m d := by
  unfold U1 V1 ops1
  after_reads_simp
  rfl

theorem V1'_idx : V1' m d main_v1_0 = idxArr (U1 m) d := by
  unfold V1'
  rw [Function.update_of_ne (StableHlo.devRef_ne_of_ne (by decide)), Function.update_self]
theorem V1'_sse : V1' m d main_v1_1 = sseArr (U1 m) d := by
  unfold V1'
  rw [Function.update_self]
theorem V1'_arg0 : V1' m d main_arg0 = m (d, Proc.devRef .tc main_arg0) := by
  unfold V1' V1 ops1
  rw [Function.update_of_ne (StableHlo.devRef_ne_of_ne (by decide)), Function.update_of_ne (StableHlo.devRef_ne_of_ne (by decide))]
  after_reads_simp
theorem V1'_arg1 : V1' m d main_arg1 = codes m d := by
  unfold V1' V1 ops1
  rw [Function.update_of_ne (StableHlo.devRef_ne_of_ne (by decide)), Function.update_of_ne (StableHlo.devRef_ne_of_ne (by decide))]
  after_reads_simp
  rfl

theorem ind_eq : ind m d = shapeCast S8192 (shapeCast S8192x1 (idxArr (U1 m) d) shapeCasts_S16x1x512_S8192x1) shapeCasts_S8192x1_S8192 := by
  rw [← V1'_idx]
  unfold ind V2 ops2
  after_reads_simp
  rfl
theorem V2_v2 : V2 m d main_v2 = shapeCast S8192x1 (idxArr (U1 m) d) shapeCasts_S16x1x512_S8192x1 := by
  rw [← V1'_idx]
  unfold V2 ops2
  after_reads_simp
  rfl
theorem tab_eq : tab m d = pad S8192x128 ![0, 0] ![0, 96] ![0, 0] (codes m d) (sitofp .f32 (constantI S_ 32 0#32)) pads_S8192x32_S8192x128_000_0960 h_S_ := by
  rw [← V1'_arg1]
  unfold tab V2 ops2
  after_reads_simp
theorem V2_arg0 : V2 m d main_arg0 = m (d, Proc.devRef .tc main_arg0) := by
  refine Eq.trans ?_ (V1'_arg0 m d)
  unfold V2 ops2
  after_reads_simp
theorem V2_arg1 : V2 m d main_arg1 = m (d, Proc.devRef .tc main_arg1) := by
  refine Eq.trans ?_ (V1'_arg1 m d)
  unfold V2 ops2
  after_reads_simp
theorem V2_sse : V2 m d main_v1_1 = sseArr (U1 m) d := by
  rw [← V1'_sse]
  unfold V2 ops2
  after_reads_simp

theorem V2'_v5 : V2' m d main_v5 = gout (tab m d) (ind m d) := by
  unfold V2'
  rw [Function.update_self]
theorem V2'_ne {b : Ref sig .tc} (h : b ≠ main_v5) : V2' m d b = V2 m d b := by
  unfold V2'
  rw [Function.update_of_ne (StableHlo.devRef_ne_of_ne h)]

/-! ## The results and the arguments -/

theorem end_quantized : V3 m d main_v7
    = shapeCast S8x1024x32 (extractStridedSlice S8192x32 ![0, 0] (gout (tab m d) (ind m d)) slices_S8192x128_S8192x32_0_0) shapeCasts_S8192x32_S8x1024x32 := by
  rw [← V2'_v5]
  unfold V3 ops3
  after_reads_simp
  rfl
theorem end_loss : V3 m d main_v10
    = Host.divf (mulf (constant S_ .f32 0x3FA00000#32) (shapeCast S_ (sseArr (U1 m) d) shapeCasts_S1x1_S_)) (constant S_ .f32 0x48800000#32) := by
  rw [← V2_sse, ← V2'_ne m d (b := main_v1_1) (by decide)]
  unfold V3 ops3
  after_reads_simp
  rfl
theorem end_indices : V3 m d main_v2 = shapeCast S8192x1 (idxArr (U1 m) d) shapeCasts_S16x1x512_S8192x1 := by
  rw [← V2_v2, ← V2'_ne m d (b := main_v2) (by decide)]
  unfold V3 ops3
  after_reads_simp
theorem end_arg0 : V3 m d main_arg0 = m (d, Proc.devRef .tc main_arg0) := by
  refine Eq.trans ?_ (V2_arg0 m d)
  rw [← V2'_ne m d (b := main_arg0) (by decide)]
  unfold V3 ops3
  after_reads_simp
theorem end_arg1 : V3 m d main_arg1 = m (d, Proc.devRef .tc main_arg1) := by
  refine Eq.trans ?_ (V2_arg1 m d)
  rw [← V2'_ne m d (b := main_arg1) (by decide)]
  unfold V3 ops3
  after_reads_simp

end Cert.Proof.Ends
-- ==== Proof.Nearest.lean ====
/-
  The first position of the least of a row of 8192 extended reals, and two ways to find it: chunk by chunk with a
  running best that only a strictly smaller minimum replaces, and one pass over (value, position) pairs.
-/
module

public import Idealize.ShloMosaic.PureOps.Ideal
public import Idealize.ShloMosaic.PureOps.Reduce
public import Mathlib.Data.Finset.Fold

@[expose] public section

namespace Cert.Proof.Nearest

open Idealize.ShloMosaic

/-- Position `k` holds the least of the row, and no position before it does. -/
def First (f : Fin 8192 → EReal) (k : Fin 8192) : Prop := (∀ j, f k ≤ f j) ∧ ∀ j, j < k → f k < f j

/-- There is at most one such position. -/
theorem First.unique {f : Fin 8192 → EReal} {k k' : Fin 8192} (h : First f k) (h' : First f k') : k = k' := by
  rcases lt_trichotomy k k' with hlt | heq | hgt
  · exact absurd (h.1 k') (not_le.mpr (h'.2 k hlt))
  · exact heq
  · exact absurd (h'.1 k) (not_le.mpr (h.2 k' hgt))

/-- `m` is the least of a finite family, and is attained. -/
def Least {n : ℕ} (g : Fin n → EReal) (m : EReal) : Prop := (∀ l, m ≤ g l) ∧ ∃ l, g l = m

/-- The minimum folded from `⊤` over a nonempty family is its least. -/
theorem least_fold {n : ℕ} (hn : 0 < n) (g : Fin n → EReal) : Least g ((Finset.univ : Finset (Fin n)).fold min ⊤ g) := by
  have hle : ∀ l, (Finset.univ : Finset (Fin n)).fold min ⊤ g ≤ g l := fun l =>
    (Finset.le_fold_min _).mp le_rfl |>.2 l (Finset.mem_univ l)
  refine ⟨hle, ?_⟩
  rcases (Finset.fold_min_le _).mp (le_refl ((Finset.univ : Finset (Fin n)).fold min ⊤ g)) with h | ⟨l, _, h⟩
  · have hT : (Finset.univ : Finset (Fin n)).fold min ⊤ g = ⊤ := top_le_iff.mp h
    exact ⟨⟨0, hn⟩, (top_le_iff.mp (hT ▸ hle ⟨0, hn⟩)).trans hT.symm⟩
  · exact ⟨l, le_antisymm h (hle l)⟩

/-- What a fold of the signed minimum holds: at most the start and every element, and one of them. -/
theorem fold_minsi {n : ℕ} (init : BitVec 32) (g : Fin n → BitVec 32) (s : Finset (Fin n)) :
    (s.fold IntOp.minsi init g).toInt ≤ init.toInt ∧ (∀ l ∈ s, (s.fold IntOp.minsi init g).toInt ≤ (g l).toInt)
      ∧ (s.fold IntOp.minsi init g = init ∨ ∃ l ∈ s, s.fold IntOp.minsi init g = g l) := by
  induction s using Finset.cons_induction with
  | empty => exact ⟨le_rfl, fun l hl => absurd hl (Finset.notMem_empty l), Or.inl rfl⟩
  | cons a s ha ih =>
    rw [Finset.fold_cons]
    obtain ⟨h1, h2, h3⟩ := ih
    generalize s.fold IntOp.minsi init g = r at *
    unfold IntOp.minsi
    split_ifs with hlt
    · have hlt' : (g a).toInt < r.toInt := BitVec.slt_iff_toInt_lt.mp hlt
      refine ⟨by omega, fun l hl => ?_, Or.inr ⟨a, Finset.mem_cons_self a s, rfl⟩⟩
      rcases Finset.mem_cons.mp hl with rfl | hl
      · exact le_rfl
      · have := h2 l hl; omega
    · have hge : r.toInt ≤ (g a).toInt := by
        by_contra hc
        exact hlt (BitVec.slt_iff_toInt_lt.mpr (not_le.mp hc))
      refine ⟨h1, fun l hl => ?_, ?_⟩
      · rcases Finset.mem_cons.mp hl with rfl | hl
        · exact hge
        · exact h2 l hl
      · rcases h3 with h | ⟨l, hl, h⟩
        · exact Or.inl h
        · exact Or.inr ⟨l, Finset.mem_cons_of_mem hl, h⟩

theorem toInt_ofNat_small (l : ℕ) (h : l < 2048) : (BitVec.ofNat 32 l).toInt = (l : ℤ) := by
  have e : (BitVec.ofNat 32 l).toNat = l := by rw [BitVec.toNat_ofNat]; exact Nat.mod_eq_of_lt (by omega)
  rw [BitVec.toInt_eq_toNat_of_lt (by rw [e]; omega), e]

/-- The least position where a chunk holds `m`, as the fold of the signed minimum finds it. -/
theorem first_in_chunk (g : Fin 2048 → EReal) (m : EReal) (hm : ∃ l, g l = m) (w : Fin 2048 → BitVec 32)
    (hw : ∀ l, w l = if g l = m then BitVec.ofNat 32 l.val else 1073741824#32) :
    ∃ k : Fin 2048, (Finset.univ : Finset (Fin 2048)).fold IntOp.minsi 2147483647#32 w = BitVec.ofNat 32 k.val
      ∧ g k = m ∧ ∀ l, l < k → g l ≠ m := by
  obtain ⟨l0, hl0⟩ := hm
  obtain ⟨_, h2, h3⟩ := fold_minsi 2147483647#32 w Finset.univ
  generalize (Finset.univ : Finset (Fin 2048)).fold IntOp.minsi 2147483647#32 w = r at *
  have hr : r.toInt < 2048 := by
    have := h2 l0 (Finset.mem_univ _)
    rw [hw, if_pos hl0, toInt_ofNat_small _ l0.isLt] at this
    have := l0.isLt; omega
  rcases h3 with h | ⟨k, _, h⟩
  · exfalso; rw [h] at hr; revert hr; decide
  · rw [hw] at h
    split_ifs at h with hk
    · refine ⟨k, h, hk, fun l hlt hl => ?_⟩
      have := h2 l (Finset.mem_univ _)
      rw [hw, if_pos hl, h, toInt_ofNat_small _ k.isLt, toInt_ofNat_small _ l.isLt] at this
      have : l.val < k.val := hlt
      omega
    · exfalso; rw [h] at hr; revert hr; decide

/-- Position `l` of chunk `c`. -/
def at4 (c : Fin 4) (l : Fin 2048) : Fin 8192 := ⟨2048 * c.val + l.val, by have := c.isLt; have := l.isLt; omega⟩

/-- The first least of a row: the first chunk whose minimum is the least of the four, and in it the first position
    that holds that minimum. -/
theorem first_of_chunks (f : Fin 8192 → EReal) (m : Fin 4 → EReal) (hm : ∀ c, Least (fun l => f (at4 c l)) (m c))
    (c : Fin 4) (hc : ∀ c', m c ≤ m c') (hc' : ∀ c', c' < c → m c < m c') (k : Fin 2048) (hk : f (at4 c k) = m c)
    (hk' : ∀ l, l < k → f (at4 c l) ≠ m c) : First f (at4 c k) ∧ f (at4 c k) = m c := by
  have split : ∀ j : Fin 8192, ∃ c' l, j = at4 c' l := fun j =>
    ⟨⟨j.val / 2048, by have := j.isLt; omega⟩, ⟨j.val % 2048, Nat.mod_lt _ (by decide)⟩,
      Fin.ext (Nat.div_add_mod j.val 2048).symm⟩
  refine ⟨⟨fun j => ?_, fun j hj => ?_⟩, hk⟩
  · obtain ⟨c', l, rfl⟩ := split j
    rw [hk]; exact (hc c').trans ((hm c').1 l)
  · obtain ⟨c', l, rfl⟩ := split j
    rw [hk]
    have hlt : 2048 * c'.val + l.val < 2048 * c.val + k.val := hj
    rcases lt_or_ge c'.val c.val with h | h
    · exact lt_of_lt_of_le (hc' c' h) ((hm c').1 l)
    · have he : c' = c := Fin.ext (by have := l.isLt; have := k.isLt; omega)
      subst he
      have hlk : l < k := by show l.val < k.val; omega
      exact lt_of_le_of_ne ((hm c').1 l) (Ne.symm (hk' l hlk))

/-! ## One pass over (value, position) pairs -/

/-- The pass keeps the pair it has unless the next is smaller, or equal at an earlier position. -/
def Keeps (g : EReal × BitVec 32 → EReal × BitVec 32 → EReal × BitVec 32) : Prop :=
  ∀ a b, g a b = if a.1 < b.1 ∨ (a.1 = b.1 ∧ a.2.slt b.2 = true) then a else b

theorem slt_ofNat (a b : ℕ) (ha : a < 8192) (hb : b < 8192) :
    (BitVec.ofNat 32 a).slt (BitVec.ofNat 32 b) = decide (a < b) := by
  have e : ∀ n, n < 8192 → (BitVec.ofNat 32 n).toInt = (n : ℤ) := fun n hn => by
    have e : (BitVec.ofNat 32 n).toNat = n := by rw [BitVec.toNat_ofNat]; exact Nat.mod_eq_of_lt (by omega)
    rw [BitVec.toInt_eq_toNat_of_lt (by rw [e]; omega), e]
  rw [BitVec.slt_eq_decide, e a ha, e b hb]
  simp

theorem entry (n : ℕ) (hn : n < 8192) : (List.finRange 8192)[n]? = some ⟨n, hn⟩ := by
  rw [List.getElem?_eq_getElem (by rw [List.length_finRange]; exact hn), List.getElem_finRange]; rfl

/-- After `n + 1` pairs in order the pass holds the first least of those. -/
theorem pass_prefix (f : Fin 8192 → EReal) (g : EReal × BitVec 32 → EReal × BitVec 32 → EReal × BitVec 32) (hg : Keeps g) :
    ∀ n (hn : n < 8192), ∃ k : Fin 8192, k.val ≤ n
      ∧ (((List.finRange 8192).take (n + 1)).map fun i => (f i, BitVec.ofNat 32 i.val)).foldl g (⊤, 0#32)
          = (f k, BitVec.ofNat 32 k.val)
      ∧ (∀ j : Fin 8192, j.val ≤ n → f k ≤ f j) ∧ ∀ j, j < k → f k < f j := by
  intro n
  induction n with
  | zero =>
    intro hn
    refine ⟨⟨0, hn⟩, le_rfl, ?_, fun j hj => ?_, fun j hj => absurd hj (Nat.not_lt_zero _)⟩
    · rw [List.take_add_one]
      simp only [List.take_zero, List.nil_append, entry 0 hn, Option.toList_some, List.map_cons,
        List.map_nil, List.foldl_cons, List.foldl_nil]
      rw [hg]
      simp only
      have h0 : (0#32).slt (BitVec.ofNat 32 0) = false := by decide
      rw [h0]
      rw [if_neg]
      rintro (h | h)
      · exact absurd h not_top_lt
      · exact absurd h.2 Bool.false_ne_true
    · have : j = ⟨0, hn⟩ := Fin.ext (Nat.le_zero.mp hj)
      rw [this]
  | succ n ih =>
    intro hn
    obtain ⟨k, hk, he, hmin, hfirst⟩ := ih (by omega)
    rw [List.take_add_one]
    simp only [entry (n + 1) hn, Option.toList_some, List.map_append, List.map_cons, List.map_nil,
      List.foldl_append, List.foldl_cons, List.foldl_nil]
    rw [he, hg]
    simp only
    rw [slt_ofNat _ _ k.isLt hn]
    have hkn : k.val < n + 1 := by omega
    by_cases hle : f k ≤ f ⟨n + 1, hn⟩
    · refine ⟨k, by omega, ?_, fun j hj => ?_, hfirst⟩
      · rw [if_pos]
        rcases lt_or_eq_of_le hle with h | h
        · exact Or.inl h
        · exact Or.inr ⟨h, by simpa using hkn⟩
      · rcases Nat.lt_or_ge j.val (n + 1) with h | h
        · exact hmin j (by omega)
        · have : j = ⟨n + 1, hn⟩ := Fin.ext (by show j.val = n + 1; omega)
          rw [this]; exact hle
    · have hlt := not_le.mp hle
      refine ⟨⟨n + 1, hn⟩, le_rfl, ?_, fun j hj => ?_, fun j hj => ?_⟩
      · rw [if_neg]
        rintro (h | h)
        · exact hle h.le
        · exact hle h.1.le
      · rcases Nat.lt_or_ge j.val (n + 1) with h | h
        · exact hlt.le.trans (hmin j (by omega))
        · have : j = ⟨n + 1, hn⟩ := Fin.ext (by show j.val = n + 1; omega)
          rw [this]
      · exact hlt.trans_le (hmin j (by have : j.val < n + 1 := hj; omega))

/-- The whole pass holds the first least of the row. -/
theorem pass_first (f : Fin 8192 → EReal) (g : EReal × BitVec 32 → EReal × BitVec 32 → EReal × BitVec 32) (hg : Keeps g) :
    ∃ k : Fin 8192, First f k ∧ ((List.finRange 8192).map fun i => (f i, BitVec.ofNat 32 i.val)).foldl g (⊤, 0#32)
      = (f k, BitVec.ofNat 32 k.val) := by
  obtain ⟨k, _, he, hmin, hfirst⟩ := pass_prefix f g hg 8191 (by omega)
  have ht : (List.finRange 8192).take (8191 + 1) = List.finRange 8192 := List.take_of_length_le (by rw [List.length_finRange])
  rw [ht] at he
  exact ⟨k, ⟨fun j => hmin j (by have := j.isLt; omega), hfirst⟩, he⟩

end Cert.Proof.Nearest
-- ==== Proof.Row.lean ====
/-
  What the TensorCore call computes at one grid point, row by row, over the extended reals: the least of the row's
  8192 scores and the first position that holds it.
-/
module

public import proofs.«01_k».proof.Proof.Nearest
public import proofs.«01_k».proof.Proof.Body
public import Idealize.ShloMosaic.PureOps.Ideal.Laws
public import Idealize.ShloMosaic.Lib.Pointwise.Index
public import Idealize.ShloMosaic.Lib.Pipeline.Value

@[expose] public section

set_option maxRecDepth 16384

noncomputable section

namespace Cert.Proof.Row

open Cert.KernelIdeal Cert.KernelIdeal.Gen Cert.Proof.Body Cert.Proof.Nearest
open Idealize.ShloMosaic

/-! ## Reading the operations at a row -/

theorem pick {α : Type} (a b : EReal) (u v : α) : Scalar.select (Ideal.cmp .olt a b) u v = if a < b then u else v := by
  unfold Scalar.select Ideal.cmp
  by_cases h : a < b <;> simp [h]

theorem pickEq {α : Type} (a b : EReal) (u v : α) : Scalar.select (Ideal.cmp .oeq a b) u v = if a = b then u else v := by
  unfold Scalar.select Ideal.cmp
  by_cases h : a = b <;> simp [h]

theorem ofBits_inf : Ideal.ofBits .f32 0x7F800000#32 = ⊤ := by simp [Ideal.ofBits, Ideal.ieee]

theorem lift_row (r : Fin 512) (l : Fin 2048) :
    Shape.Reduces.lift reduces_S512x2048_S512 (ix1 r : S512.Idx) l = (ix2 r l : S512x2048.Idx) :=
  Shape.idx_ext₂ rfl rfl

theorem along {α : Type} (src : S512x2048.Idx → α) (r : Fin 512) :
    (src ∘ Shape.Reduces.lift reduces_S512x2048_S512 (ix1 r : S512.Idx)) = fun l : Fin 2048 => src (ix2 r l) :=
  funext fun l => congrArg src (lift_row r l)

/-- A row's minimum is its least. -/
theorem minRow (src : FVec Ideal S512x2048 .f32) (r : Fin 512) :
    Least (fun l : Fin 2048 => src (ix2 r l))
      (multiReduction .minimumf [1] S512 src 0x7F800000#32 reduces_S512x2048_S512 (.inl rfl) rfl (ix1 r)) := by
  have h := (multiReduction_minimumf_eq_fold src 0x7F800000#32 reduces_S512x2048_S512 (.inl rfl) rfl (ix1 r)).trans
    (Shape.Reduces.fold_filter_drop_single reduces_S512x2048_S512 _ _ src (ix1 r))
  rw [along] at h
  have h' := least_fold (by decide) (fun l : Fin 2048 => src (ix2 r l))
  rw [← ofBits_inf] at h'
  exact Eq.mpr (congrArg (Least _) h) h'

theorem lastRow (src : IVec S512x2048 32) (r : Fin 512) :
    multiReductionI .minsi [1] S512 src 2147483647#32 reduces_S512x2048_S512 rfl (ix1 r)
      = (Finset.univ : Finset (Fin 2048)).fold IntOp.minsi 2147483647#32 fun l => src (ix2 r l) := by
  have h := (multiReductionI_eq_fold .minsi src 2147483647#32 reduces_S512x2048_S512 rfl (ix1 r)).trans
    (Shape.Reduces.fold_filter_drop_single reduces_S512x2048_S512 _ _ src (ix1 r))
  rw [along] at h
  exact h

/-- A column of row values, spread over the row. -/
theorem spread {α : Type} (v : S512.Idx → α) (r : Fin 512) (l : Fin 2048) :
    broadcastTo S512x2048 (shapeCast S512x1 v shapeCasts_S512_S512x1) broadcasts_S512x1_S512x2048 (ix2 r l) = v (ix1 r) := by
  rw [broadcastTo_apply _ _ (ix2 r l : S512x2048.Idx) (ix2 r 0 : S512x1.Idx) (by
    intro a; match a with | ⟨0, _⟩ => rfl | ⟨1, _⟩ => rfl)]
  exact shapeCast_apply _ _ _ _ (by rw [Shape.rowMajor_val_one, Shape.rowMajor_val_two]; simp)

variable (x : Vec Ideal S512x32 .f32) (w : Vec Ideal S8192x32 .f32) (r : Fin 512)

/-- Score `k` of row `r`. -/
def score (k : Fin 8192) : EReal := k0_pay8 (F := Ideal) x w (ix2 r k)

/-- The minimum of chunk `c` of the row. -/
def cmin : Fin 4 → EReal := fun
  | 0 => k0_pay10 (F := Ideal) x w (ix1 r)
  | 1 => k0_pay13 (F := Ideal) x w (ix1 r)
  | 2 => k0_pay19 (F := Ideal) x w (ix1 r)
  | 3 => k0_pay2 (F := Ideal) (k0_pay8 x w) (ix1 r)

theorem cmin0 : cmin x w r 0 = k0_pay10 (F := Ideal) x w (ix1 r) := rfl
theorem cmin1 : cmin x w r 1 = k0_pay13 (F := Ideal) x w (ix1 r) := rfl
theorem cmin2 : cmin x w r 2 = k0_pay19 (F := Ideal) x w (ix1 r) := rfl
theorem cmin3 : cmin x w r 3 = k0_pay2 (F := Ideal) (k0_pay8 x w) (ix1 r) := rfl

theorem chunk0 (l : Fin 2048) : k0_pay9 (F := Ideal) x w (ix2 r l) = score x w r (at4 0 l) := by
  unfold k0_pay9 score
  exact extractStridedSlice_apply _ _ _ _ _ (by intro a; match a with | ⟨0, _⟩ => simp | ⟨1, _⟩ => simp [at4])
theorem chunk1 (l : Fin 2048) : k0_pay12 (F := Ideal) x w (ix2 r l) = score x w r (at4 1 l) := by
  unfold k0_pay12 score
  exact extractStridedSlice_apply _ _ _ _ _ (by intro a; match a with | ⟨0, _⟩ => simp | ⟨1, _⟩ => simp [at4])
theorem chunk2 (l : Fin 2048) : k0_pay18 (F := Ideal) x w (ix2 r l) = score x w r (at4 2 l) := by
  unfold k0_pay18 score
  exact extractStridedSlice_apply _ _ _ _ _ (by intro a; match a with | ⟨0, _⟩ => simp | ⟨1, _⟩ => simp [at4])
theorem chunk3 (l : Fin 2048) : k0_pay1 (F := Ideal) (k0_pay8 x w) (ix2 r l) = score x w r (at4 3 l) := by
  unfold k0_pay1 score
  exact extractStridedSlice_apply _ _ _ _ _ (by intro a; match a with | ⟨0, _⟩ => simp | ⟨1, _⟩ => simp [at4])

theorem cmin_least (c : Fin 4) : Least (fun l => score x w r (at4 c l)) (cmin x w r c) := by
  match c with
  | 0 => have h := minRow (k0_pay9 (F := Ideal) x w) r; simp only [chunk0] at h; exact h
  | 1 => have h := minRow (k0_pay12 (F := Ideal) x w) r; simp only [chunk1] at h; exact h
  | 2 => have h := minRow (k0_pay18 (F := Ideal) x w) r; simp only [chunk2] at h; exact h
  | 3 => have h := minRow (k0_pay1 (F := Ideal) (k0_pay8 x w)) r; simp only [chunk3] at h; exact h

/-! ## The running best -/

theorem pickRow {α : Type} {s : Shape} (a b : FVec Ideal s .f32) (u v : s.Idx → α) (j : s.Idx) :
    select (cmpf .olt a b) u v j = if a j < b j then u j else v j := pick _ _ _ _

/-- Rounding to bf16 and back changes nothing over the extended reals. -/
theorem narrow {s : Shape} (v : FVec Ideal s .f32) : extf .f32 (truncf .bf16 v bitsLt_bf16_f32) bitsLt_bf16_f32 = v := rfl

theorem pickSpread {α : Type} (a b : FVec Ideal S512 .f32) (u v : S512x2048.Idx → α) (r : Fin 512) (l : Fin 2048) :
    select (broadcastTo S512x2048 (shapeCast S512x1 (cmpf .olt a b) shapeCasts_S512_S512x1) broadcasts_S512x1_S512x2048) u v (ix2 r l)
      = if a (ix1 r) < b (ix1 r) then u (ix2 r l) else v (ix2 r l) :=
  (congrArg (fun c => Scalar.select c _ _) (spread _ r l)).trans (pick _ _ _ _)

theorem pickLast (a : FVec Ideal S512x2048 .f32) (b : FVec Ideal S512 .f32) (r : Fin 512) (l : Fin 2048) :
    select (cmpf .oeq a (broadcastTo S512x2048 (shapeCast S512x1 b shapeCasts_S512_S512x1) broadcasts_S512x1_S512x2048))
        (iota .tc S512x2048 32 [1] iota_S512x2048_d1_w32) (broadcast S512x2048 1073741824#32) (ix2 r l)
      = if a (ix2 r l) = b (ix1 r) then BitVec.ofNat 32 l.val else 1073741824#32 :=
  (congrArg₂ (fun y i => Scalar.select (Ideal.cmp .oeq (a (ix2 r l)) y) i 1073741824#32) (spread b r l)
    (iota_single_apply _ _ _ _ _ _)).trans (pickEq _ _ _ _)

theorem p11 : k0_pay11 (F := Ideal) x w = k0_pay10 x w := by unfold k0_pay11; exact narrow _
theorem p14 : k0_pay14 (F := Ideal) x w = cmpf .olt (k0_pay13 x w) (k0_pay10 x w) := by unfold k0_pay14; rw [p11]
theorem p15 : k0_pay15 (F := Ideal) x w = select (k0_pay14 x w) (k0_pay13 x w) (k0_pay10 x w) := by
  unfold k0_pay15; dsimp only; rw [p11, narrow]
theorem p16 : k0_pay16 (F := Ideal) x w = k0_pay15 x w := by rw [p15]; unfold k0_pay16; dsimp only
theorem p20 : k0_pay20 (F := Ideal) x w = cmpf .olt (k0_pay19 x w) (k0_pay15 x w) := by unfold k0_pay20; dsimp only
theorem p21 : k0_pay21 (F := Ideal) x w = select (k0_pay20 x w) (k0_pay19 x w) (k0_pay15 x w) := by
  unfold k0_pay21; dsimp only; rw [narrow]
theorem p22 : k0_pay22 (F := Ideal) x w
    = select (k0_pay20 x w) (broadcast S512 2#32) (select (k0_pay14 x w) (broadcast S512 1#32) (broadcast S512 0#32)) := by
  unfold k0_pay22; dsimp only
theorem p3 (v : FVec Ideal S512 .f32) : k0_pay3 (k0_pay8 (F := Ideal) x w) v = cmpf .olt (k0_pay2 (k0_pay8 x w)) v := by
  unfold k0_pay3; dsimp only

theorem best1 : k0_pay15 (F := Ideal) x w (ix1 r) = if cmin x w r 1 < cmin x w r 0 then cmin x w r 1 else cmin x w r 0 := by
  rw [cmin0, cmin1, p15, p14]; exact pickRow _ _ _ _ _
theorem best2 : k0_pay21 (F := Ideal) x w (ix1 r)
    = if cmin x w r 2 < k0_pay15 (F := Ideal) x w (ix1 r) then cmin x w r 2 else k0_pay15 (F := Ideal) x w (ix1 r) := by
  rw [cmin2, p21, p20]; exact pickRow _ _ _ _ _
theorem code2 : k0_pay22 (F := Ideal) x w (ix1 r)
    = if cmin x w r 2 < k0_pay15 (F := Ideal) x w (ix1 r) then 2#32 else if cmin x w r 1 < cmin x w r 0 then 1#32 else 0#32 := by
  rw [cmin0, cmin1, cmin2, p22, p20, p14, pickRow, pickRow]; rfl
theorem comb1 (l : Fin 2048) : k0_pay17 (F := Ideal) x w (ix2 r l)
    = if cmin x w r 1 < cmin x w r 0 then score x w r (at4 1 l) else score x w r (at4 0 l) := by
  rw [← chunk0, ← chunk1, cmin0, cmin1]
  unfold k0_pay17
  rw [p14, shapeCast_self]
  exact pickSpread _ _ _ _ r l

/-- The least of the row as the call keeps it. -/
def rowMin : EReal := k0_pay4 (F := Ideal) (k0_pay8 x w) (k0_pay16 x w) (k0_pay19 x w) (k0_pay20 x w) (k0_pay21 x w) (ix1 r)

theorem best3 : rowMin x w r = if cmin x w r 3 < k0_pay21 (F := Ideal) x w (ix1 r) then cmin x w r 3
    else if cmin x w r 2 < k0_pay15 (F := Ideal) x w (ix1 r) then cmin x w r 2 else k0_pay15 (F := Ideal) x w (ix1 r) := by
  unfold rowMin k0_pay4
  rw [cmin2, cmin3, p3, p16, p20, pickRow, pickRow]

/-- Where the row's chunks are held when the best chunk's least position is looked for. -/
def kept (l : Fin 2048) : EReal :=
  if cmin x w r 3 < k0_pay21 (F := Ideal) x w (ix1 r) then score x w r (at4 3 l)
  else if cmin x w r 2 < k0_pay15 (F := Ideal) x w (ix1 r) then score x w r (at4 2 l)
  else if cmin x w r 1 < cmin x w r 0 then score x w r (at4 1 l) else score x w r (at4 0 l)

theorem comb3 (l : Fin 2048) :
    select (broadcastTo S512x2048 (shapeCast S512x1 (shapeCast S512x1 (k0_pay3 (F := Ideal) (k0_pay8 x w) (k0_pay21 x w)) shapeCasts_S512_S512x1)
        shapeCasts_S512x1_S512x1) broadcasts_S512x1_S512x2048) (k0_pay1 (k0_pay8 x w))
      (select (broadcastTo S512x2048 (shapeCast S512x1 (shapeCast S512x1 (k0_pay20 (F := Ideal) x w) shapeCasts_S512_S512x1)
        shapeCasts_S512x1_S512x1) broadcasts_S512x1_S512x2048) (k0_pay18 x w) (k0_pay17 x w)) (ix2 r l) = kept x w r l := by
  unfold kept
  rw [← comb1, ← chunk2, ← chunk3, p3, p20, shapeCast_self, shapeCast_self, cmin2, cmin3, pickSpread, pickSpread]

/-- The row number that the call stores for the row, as a word: the kept chunk's number times 2048, and the least
    position where that chunk holds the least. -/
theorem stored : idxBlk x w (ix3 0 0 r) = IntOp.addi
    (IntOp.muli (if cmin x w r 3 < k0_pay21 (F := Ideal) x w (ix1 r) then 3#32 else k0_pay22 (F := Ideal) x w (ix1 r)) 2048#32)
    ((Finset.univ : Finset (Fin 2048)).fold IntOp.minsi 2147483647#32 fun l =>
      if kept x w r l = rowMin x w r then BitVec.ofNat 32 l.val else 1073741824#32) := by
  unfold idxBlk k0_pay5
  refine (shapeCast_apply _ _ _ (ix1 r : S512.Idx) (by rw [Shape.rowMajor_val_one, Shape.rowMajor_val_three]; simp)).trans ?_
  refine congrArg₂ IntOp.addi (congrArg (fun b => IntOp.muli b 2048#32) ?_) ((lastRow _ r).trans ?_)
  · rw [cmin3, p3]; exact pickRow _ _ _ _ _
  · refine congrArg (fun g => (Finset.univ : Finset (Fin 2048)).fold IntOp.minsi 2147483647#32 g) (funext fun l => ?_)
    refine (pickLast _ _ r l).trans ?_
    rw [comb3]
    rfl

/-- The call's row number is the first position of the row's least score, and its least is that score. -/
theorem row : ∃ k : Fin 8192, First (score x w r) k ∧ idxBlk x w (ix3 0 0 r) = BitVec.ofNat 32 k.val ∧ rowMin x w r = score x w r k := by
  have key : ∃ c : Fin 4, (∀ c', cmin x w r c ≤ cmin x w r c') ∧ (∀ c', c' < c → cmin x w r c < cmin x w r c')
      ∧ rowMin x w r = cmin x w r c ∧ (∀ l, kept x w r l = score x w r (at4 c l))
      ∧ (if cmin x w r 3 < k0_pay21 (F := Ideal) x w (ix1 r) then 3#32 else k0_pay22 (F := Ideal) x w (ix1 r)) = BitVec.ofNat 32 c.val := by
    rw [best3, code2, best2, best1]
    unfold kept
    rw [best2, best1]
    generalize cmin x w r = m
    by_cases h1 : m 1 < m 0
    · simp only [if_pos h1]
      by_cases h2 : m 2 < m 1
      · simp only [if_pos h2]
        by_cases h3 : m 3 < m 2
        · refine ⟨3, ?_, ?_, by simp [h3], by simp [h3], by simp [h3]⟩
          · intro c; fin_cases c <;> simp <;> order
          · intro c hc; fin_cases c <;> simp at hc ⊢ <;> order
        · refine ⟨2, ?_, ?_, by simp [h3], by simp [h3], by simp [h3]⟩
          · intro c; fin_cases c <;> simp <;> order
          · intro c hc; fin_cases c <;> simp at hc ⊢ <;> order
      · simp only [if_neg h2]
        by_cases h3 : m 3 < m 1
        · refine ⟨3, ?_, ?_, by simp [h3], by simp [h3], by simp [h3]⟩
          · intro c; fin_cases c <;> simp <;> order
          · intro c hc; fin_cases c <;> simp at hc ⊢ <;> order
        · refine ⟨1, ?_, ?_, by simp [h3], by simp [h3], by simp [h3]⟩
          · intro c; fin_cases c <;> simp <;> order
          · intro c hc; fin_cases c <;> simp at hc ⊢ <;> order
    · simp only [if_neg h1]
      by_cases h2 : m 2 < m 0
      · simp only [if_pos h2]
        by_cases h3 : m 3 < m 2
        · refine ⟨3, ?_, ?_, by simp [h3], by simp [h3], by simp [h3]⟩
          · intro c; fin_cases c <;> simp <;> order
          · intro c hc; fin_cases c <;> simp at hc ⊢ <;> order
        · refine ⟨2, ?_, ?_, by simp [h3], by simp [h3], by simp [h3]⟩
          · intro c; fin_cases c <;> simp <;> order
          · intro c hc; fin_cases c <;> simp at hc ⊢ <;> order
      · simp only [if_neg h2]
        by_cases h3 : m 3 < m 0
        · refine ⟨3, ?_, ?_, by simp [h3], by simp [h3], by simp [h3]⟩
          · intro c; fin_cases c <;> simp <;> order
          · intro c hc; fin_cases c <;> simp at hc ⊢ <;> order
        · refine ⟨0, ?_, ?_, by simp [h3], by simp [h3], by simp [h3]⟩
          · intro c; fin_cases c <;> simp <;> order
          · intro c hc; fin_cases c <;> simp at hc ⊢ <;> order
  obtain ⟨c, hc, hc', hmin, hkept, hcode⟩ := key
  obtain ⟨k, hfold, hk, hk'⟩ := first_in_chunk (fun l => score x w r (at4 c l)) (cmin x w r c) (cmin_least x w r c).2
    (fun l => if kept x w r l = rowMin x w r then BitVec.ofNat 32 l.val else 1073741824#32) (fun l => by rw [hkept, hmin])
  obtain ⟨hfirst, hval⟩ := first_of_chunks (score x w r) (cmin x w r) (cmin_least x w r) c hc hc' k hk hk'
  refine ⟨at4 c k, hfirst, ?_, hmin.trans hval.symm⟩
  rw [stored, hcode, hfold]
  apply BitVec.eq_of_toNat_eq
  have h4 := c.isLt
  have hl := k.isLt
  simp only [IntOp.addi, IntOp.muli, BitVec.toNat_add, BitVec.toNat_mul, BitVec.toNat_ofNat, at4]
  omega

end Cert.Proof.Row
-- ==== Proof.Place.lean ====
/-
  The row numbers that the TensorCore call hands to the SparseCore call, over the extended reals: each is below the
  number of the codebook's rows. So the program runs, whatever its arguments hold.
-/
module

public import proofs.«01_k».proof.Proof.Ends
public import proofs.«01_k».proof.Proof.Row

@[expose] public section

set_option maxRecDepth 16384

noncomputable section

namespace Cert.Proof.Place

open Cert.KernelIdeal Cert.KernelIdeal.Gen Cert.Proof.Task Cert.Proof.Body Cert.Proof.Region Cert.Proof.Main Cert.Proof.Blocks
open Cert.Proof.Nearest Cert.Proof.Row Cert.Proof.Ends
open Idealize.ShloMosaic Idealize.ShloMosaic.TcCoe Idealize.SL.Sem

/-- Row `r` of block `t`, among all the rows. -/
def rowOf (t : Fin 16) (r : Fin 512) : Fin 8192 := ⟨512 * t.val + r.val, by have := t.isLt; have := r.isLt; omega⟩

theorem rowOf_split (R : Fin 8192) : ∃ t r, R = rowOf t r :=
  ⟨⟨R.val / 512, by have := R.isLt; omega⟩, ⟨R.val % 512, by omega⟩, Fin.ext (by show R.val = 512 * (R.val / 512) + R.val % 512; omega)⟩

variable (m : (ℓ : Loc nD τ sig) → Buf (Elt Ideal) ℓ) (d : Dev nD)

/-- The rows of block `t`. -/
def blkX (t : Fin 16) : Vec Ideal S512x32 .f32 := iblk (U1 m) d 0 (pt t)
/-- The codebook as block `t` reads it. -/
def blkW (t : Fin 16) : Vec Ideal S8192x32 .f32 := iblk (U1 m) d 1 (pt t)

theorem blkX_apply (t : Fin 16) (r : Fin 512) (k : Fin 32) : blkX m d t (ix2 r k) = rows m d (ix2 (rowOf t r) k : S8192x32.Idx) := by
  have h := iblk0_apply (U1 m) d t r k
  rw [U1_rows] at h
  exact h
theorem blkW_eq (t : Fin 16) : blkW m d t = codes m d := by
  funext i
  have h := iblk1_apply (U1 m) d t (i 0) (i 1)
  rw [U1_codes] at h
  rw [eq_ix2 (n0 := 8192) (n1 := 32) i]
  exact h

theorem column_apply {α : Type} (a : S16x1x512.Idx → α) (t : Fin 16) (r : Fin 512) :
    shapeCast S8192x1 a shapeCasts_S16x1x512_S8192x1 (ix2 (rowOf t r) 0 : S8192x1.Idx) = a (ix3 t 0 r : S16x1x512.Idx) :=
  shapeCast_apply _ _ _ _ (by rw [Shape.rowMajor_val_two, Shape.rowMajor_val_three]; simp [rowOf]; omega)

theorem list_apply {α : Type} (a : S8192x1.Idx → α) (R : Fin 8192) :
    shapeCast S8192 a shapeCasts_S8192x1_S8192 (ix1 R : S8192.Idx) = a (ix2 R 0 : S8192x1.Idx) :=
  shapeCast_apply _ _ _ _ (by rw [Shape.rowMajor_val_one, Shape.rowMajor_val_two]; simp)

theorem ind_apply (t : Fin 16) (r : Fin 512) :
    ind m d (ix1 (rowOf t r) : S8192.Idx) = idxBlk (blkX m d t) (blkW m d t) (ix3 0 0 r) := by
  rw [ind_eq, list_apply, column_apply, idxArr_apply]
  rfl

theorem end_indices_apply (t : Fin 16) (r : Fin 512) :
    V3 m d main_v2 (ix2 (rowOf t r) 0 : S8192x1.Idx) = idxBlk (blkX m d t) (blkW m d t) (ix3 0 0 r) := by
  rw [end_indices, column_apply, idxArr_apply]
  rfl

theorem ind_lt (j : S8192.Idx) : (ind m d j).toNat < 8192 := by
  obtain ⟨t, r, h⟩ := rowOf_split (j 0)
  rw [eq_ix1 (n0 := 8192) j, h, ind_apply]
  obtain ⟨k, -, hk, -⟩ := row (blkX m d t) (blkW m d t) r
  rw [hk, BitVec.toNat_ofNat, Nat.mod_eq_of_lt (lt_trans k.isLt (by decide))]
  exact k.isLt

/-- Every execution of the program ends, with every buffer of the TensorCore as computed and every semaphore zero. -/
theorem run (ρ : Dev nD → PrngReg) :
    θ_run (Cert.KernelIdeal.defs (F := Ideal)) (Cert.KernelIdeal.threads (F := Ideal)) ⟨m, fun _ => 0, ρ⟩ (QC m) :=
  run_main m ρ fun d j => ind_lt m d j

/-- What the run leaves in one buffer. -/
theorem QC_at {r} (h : QC m r) (c : Dev nD) (b : Ref sig .tc) (hb : ¬(Proc.devRef .tc b : DevRef τ sig).isScoped = true := by decide) :
    r.2.mem ((c.tc : Thread nD τ).loc b) = V3 m c b :=
  h.1 c _ (Finset.mem_filter.mpr ⟨StableHlo.devRef_mem_tcRefs _, hb⟩)

end Cert.Proof.Place
-- ==== Proof.RefRun.lean ====
/-
  The run of the reference: one straight line of operations on the host, cut into four stretches.
-/
module

public import proofs.«01_k».proof.Proof.Gen.ReferenceIdeal
public import Idealize.ShloMosaic.Lib.StableHlo.Run
public import Idealize.ShloMosaic.Lib.StableHlo.RunRead
public import Idealize.ShloMosaic.Lib.Pipeline.Frame
public import Idealize.ShloMosaic.Lib.Quiescent

@[expose] public section

set_option maxRecDepth 16384

noncomputable section

namespace Cert.Proof.RefRun

open Cert.ReferenceIdeal Cert.ReferenceIdeal.Gen
open Idealize.ShloMosaic Idealize.ShloMosaic.TcCoe Idealize.ShloMosaic.StableHlo Idealize.SL.Sem

variable {F : FTy → Type} [FloatOps F]

/-- The table of distances. -/
abbrev opsA : List (HloOp τ sig (Elt F)) :=
  [ reshape main_arg0 main_v0 (rfl : (.f32 : EltTy) = .f32) shapeCasts_S8x1024x32_S8192x32,
    binary main_v0 main_v0 main_v1 (mulf : (⟨S8192x32, .f32⟩ : BufTy).Contents (Elt F) → (⟨S8192x32, .f32⟩ : BufTy).Contents (Elt F) → (⟨S8192x32, .f32⟩ : BufTy).Contents (Elt F)),
    nullary main_cst (constant S_ .f32 0x00000000#32),
    binary main_v1 main_cst main_v2 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v2 main_v3 (broadcastInDim S8192x1 ![0] bcast_S8192_S8192x1_0 : (⟨S8192, .f32⟩ : BufTy).Contents (Elt F) → (⟨S8192x1, .f32⟩ : BufTy).Contents (Elt F)),
    nullary main_cst_0 (constant S_ .f32 0x40000000#32),
    unary main_cst_0 main_v4 (broadcastInDim S8192x32 ![] bcast_S_S8192x32 : (⟨S_, .f32⟩ : BufTy).Contents (Elt F) → (⟨S8192x32, .f32⟩ : BufTy).Contents (Elt F)),
    binary main_v4 main_v0 main_v5 (mulf : (⟨S8192x32, .f32⟩ : BufTy).Contents (Elt F) → (⟨S8192x32, .f32⟩ : BufTy).Contents (Elt F) → (⟨S8192x32, .f32⟩ : BufTy).Contents (Elt F)),
    unary main_arg1 main_v6 ((transpose S32x8192 [1, 0] · transposes_S8192x32_S32x8192_1_0) : (⟨S8192x32, .f32⟩ : BufTy).Contents (Elt F) → (⟨S32x8192, .f32⟩ : BufTy).Contents (Elt F)),
    binary main_v5 main_v6 main_v7 ((fun l r => Host.dotGeneral dot_S8192x32_S32x8192_S8192x8192_1_0_0_1_n_n none l r) : (⟨S8192x32, .f32⟩ : BufTy).Contents (Elt F) → (⟨S32x8192, .f32⟩ : BufTy).Contents (Elt F) → (⟨S8192x8192, .f32⟩ : BufTy).Contents (Elt F)),
    unary main_v3 main_v8 (broadcastInDim S8192x8192 ![0, 1] bcast_S8192x1_S8192x8192_0_1 : (⟨S8192x1, .f32⟩ : BufTy).Contents (Elt F) → (⟨S8192x8192, .f32⟩ : BufTy).Contents (Elt F)),
    binary main_v8 main_v7 main_v9 (subf : (⟨S8192x8192, .f32⟩ : BufTy).Contents (Elt F) → (⟨S8192x8192, .f32⟩ : BufTy).Contents (Elt F) → (⟨S8192x8192, .f32⟩ : BufTy).Contents (Elt F)),
    binary main_arg1 main_arg1 main_v10 (mulf : (⟨S8192x32, .f32⟩ : BufTy).Contents (Elt F) → (⟨S8192x32, .f32⟩ : BufTy).Contents (Elt F) → (⟨S8192x32, .f32⟩ : BufTy).Contents (Elt F)),
    nullary main_cst_1 (constant S_ .f32 0x00000000#32),
    binary main_v10 main_cst_1 main_v11 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v11 main_v12 (broadcastInDim S1x8192 ![1] bcast_S8192_S1x8192_1 : (⟨S8192, .f32⟩ : BufTy).Contents (Elt F) → (⟨S1x8192, .f32⟩ : BufTy).Contents (Elt F)),
    unary main_v12 main_v13 (broadcastInDim S8192x8192 ![0, 1] bcast_S1x8192_S8192x8192_0_1 : (⟨S1x8192, .f32⟩ : BufTy).Contents (Elt F) → (⟨S8192x8192, .f32⟩ : BufTy).Contents (Elt F)),
    binary main_v9 main_v13 main_v14 (addf : (⟨S8192x8192, .f32⟩ : BufTy).Contents (Elt F) → (⟨S8192x8192, .f32⟩ : BufTy).Contents (Elt F) → (⟨S8192x8192, .f32⟩ : BufTy).Contents (Elt F)) ]

/-- The column of the least distance of each row. -/
abbrev opsB : List (HloOp τ sig (Elt F)) :=
  [ TRef.nullary main_call0.v0 (iotaInDim S8192x8192 32 1),
    TRef.nullary main_call0.cst (constant S_ .f32 0x7F800000#32),
    TRef.nullary main_call0.c (constantI S_ 32 0#32),
    TRef.quaternary (.of main_v14) main_call0.v0 main_call0.cst main_call0.c main_call0.v1_0 (fun x y u v j => (Host.argReduce reducer_argmin_f32_i32 x y u v reducesTo_S8192x8192_S8192_d1 h_S_ j).1),
    TRef.quaternary (.of main_v14) main_call0.v0 main_call0.cst main_call0.c main_call0.v1_1 (fun x y u v j => (Host.argReduce reducer_argmin_f32_i32 x y u v reducesTo_S8192x8192_S8192_d1 h_S_ j).2),
    unary main_v15 main_v16 (broadcastInDim S8192x1 ![0] bcast_S8192_S8192x1_0 : (⟨S8192, .i32⟩ : BufTy).Contents (Elt F) → (⟨S8192x1, .i32⟩ : BufTy).Contents (Elt F)),
    reshape main_v16 main_v17 (rfl : (.i32 : EltTy) = .i32) shapeCasts_S8192x1_S8192 ]

/-- The rows of the codebook at those columns. -/
abbrev opsC : List (HloOp τ sig (Elt F)) :=
  [ TRef.nullary main_call1.c (constantI S_ 32 0#32),
    TRef.unary main_call1.c main_call1.v0 (broadcastInDim S8192 ![] bcast_S_S8192),
    TRef.binary (.of main_v17) main_call1.v0 main_call1.v1 (cmpi .slt),
    TRef.nullary main_call1.c_0 (constantI S_ 32 8192#32),
    TRef.unary main_call1.c_0 main_call1.v2 (broadcastInDim S8192 ![] bcast_S_S8192),
    TRef.binary (.of main_v17) main_call1.v2 main_call1.v3 addi,
    TRef.ternary main_call1.v1 main_call1.v3 (.of main_v17) main_call1.call0.v0 select,
    TRef.unary main_call1.call0.v0 main_call1.v5 (broadcastInDim S8192x1 ![0] bcast_S8192_S8192x1_0),
    TRef.nullary main_call1.c_1 (constantI S1 32 8191#32),
    TRef.nullary main_call1.c_2 (constantI S_ 32 0#32),
    TRef.unary main_call1.c_2 main_call1.v6 (broadcastInDim S8192x1 ![] bcast_S_S8192x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S8192x1 ![0, 1] bcast_S1x1_S8192x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8192x1_S8192_d1 h_S_),
    TRef.binary (.of main_arg1) main_call1.v5 main_call1.v13 (fun x i => Host.gather gather_S8192x32_S8192x1_S8192x32_1_0_n_n_0_1_132 x i),
    TRef.unary main_call1.v12 main_call1.v14 (broadcastInDim S8192x32 ![0] bcast_S8192_S8192x32_0),
    TRef.nullary main_call1.cst (constant S_ .f32 0x7FC00000#32),
    TRef.unary main_call1.cst main_call1.v15 (broadcastInDim S8192x32 ![] bcast_S_S8192x32),
    TRef.ternary main_call1.v14 main_call1.v13 main_call1.v15 main_call1.v16 select ]

/-- The results. -/
abbrev opsD : List (HloOp τ sig (Elt F)) :=
  [ reshape main_v18 main_v19 (rfl : (.f32 : EltTy) = .f32) shapeCasts_S8192x32_S8x1024x32,
    binary main_v19 main_arg0 main_v20 (subf : (⟨S8x1024x32, .f32⟩ : BufTy).Contents (Elt F) → (⟨S8x1024x32, .f32⟩ : BufTy).Contents (Elt F) → (⟨S8x1024x32, .f32⟩ : BufTy).Contents (Elt F)),
    binary main_v20 main_v20 main_v21 (mulf : (⟨S8x1024x32, .f32⟩ : BufTy).Contents (Elt F) → (⟨S8x1024x32, .f32⟩ : BufTy).Contents (Elt F) → (⟨S8x1024x32, .f32⟩ : BufTy).Contents (Elt F)),
    nullary main_cst_2 (constant S_ .f32 0x00000000#32),
    binary main_v21 main_cst_2 main_v22 ((fun x v => Host.reduceAdd x v reducesTo_S8x1024x32_S_d0_1_2 h_S_) : (⟨S8x1024x32, .f32⟩ : BufTy).Contents (Elt F) → (⟨S_, .f32⟩ : BufTy).Contents (Elt F) → (⟨S_, .f32⟩ : BufTy).Contents (Elt F)),
    nullary main_cst_3 (constant S_ .f32 0x48800000#32),
    binary main_v22 main_cst_3 main_v23 (Host.divf : (⟨S_, .f32⟩ : BufTy).Contents (Elt F) → (⟨S_, .f32⟩ : BufTy).Contents (Elt F) → (⟨S_, .f32⟩ : BufTy).Contents (Elt F)),
    binary main_v19 main_arg0 main_v24 (subf : (⟨S8x1024x32, .f32⟩ : BufTy).Contents (Elt F) → (⟨S8x1024x32, .f32⟩ : BufTy).Contents (Elt F) → (⟨S8x1024x32, .f32⟩ : BufTy).Contents (Elt F)),
    binary main_v24 main_v24 main_v25 (mulf : (⟨S8x1024x32, .f32⟩ : BufTy).Contents (Elt F) → (⟨S8x1024x32, .f32⟩ : BufTy).Contents (Elt F) → (⟨S8x1024x32, .f32⟩ : BufTy).Contents (Elt F)),
    nullary main_cst_4 (constant S_ .f32 0x00000000#32),
    binary main_v25 main_cst_4 main_v26 ((fun x v => Host.reduceAdd x v reducesTo_S8x1024x32_S_d0_1_2 h_S_) : (⟨S8x1024x32, .f32⟩ : BufTy).Contents (Elt F) → (⟨S_, .f32⟩ : BufTy).Contents (Elt F) → (⟨S_, .f32⟩ : BufTy).Contents (Elt F)),
    nullary main_cst_5 (constant S_ .f32 0x48800000#32),
    binary main_v26 main_cst_5 main_v27 (Host.divf : (⟨S_, .f32⟩ : BufTy).Contents (Elt F) → (⟨S_, .f32⟩ : BufTy).Contents (Elt F) → (⟨S_, .f32⟩ : BufTy).Contents (Elt F)),
    nullary main_cst_6 (constant S_ .f32 0x3E800000#32),
    binary main_cst_6 main_v23 main_v28 (mulf : (⟨S_, .f32⟩ : BufTy).Contents (Elt F) → (⟨S_, .f32⟩ : BufTy).Contents (Elt F) → (⟨S_, .f32⟩ : BufTy).Contents (Elt F)),
    binary main_v27 main_v28 main_v29 (addf : (⟨S_, .f32⟩ : BufTy).Contents (Elt F) → (⟨S_, .f32⟩ : BufTy).Contents (Elt F) → (⟨S_, .f32⟩ : BufTy).Contents (Elt F)),
    binary main_v19 main_arg0 main_v30 (subf : (⟨S8x1024x32, .f32⟩ : BufTy).Contents (Elt F) → (⟨S8x1024x32, .f32⟩ : BufTy).Contents (Elt F) → (⟨S8x1024x32, .f32⟩ : BufTy).Contents (Elt F)),
    binary main_arg0 main_v30 main_v31 (addf : (⟨S8x1024x32, .f32⟩ : BufTy).Contents (Elt F) → (⟨S8x1024x32, .f32⟩ : BufTy).Contents (Elt F) → (⟨S8x1024x32, .f32⟩ : BufTy).Contents (Elt F)) ]

/-- The whole line. -/
abbrev ops : List (HloOp τ sig (Elt F)) := opsA ++ (opsB ++ (opsC ++ opsD))

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem subA : (opsA : List (HloOp τ sig (Elt F))).Forall fun op => op.bufs ⊆ tcRefs τ sig := ⟨reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub ..⟩
theorem subB : (opsB : List (HloOp τ sig (Elt F))).Forall fun op => op.bufs ⊆ tcRefs τ sig := ⟨nullary_bufs_sub .., nullary_bufs_sub .., nullary_bufs_sub .., quaternary_bufs_sub .., quaternary_bufs_sub .., unary_bufs_sub .., reshape_bufs_sub ..⟩
theorem subC : (opsC : List (HloOp τ sig (Elt F))).Forall fun op => op.bufs ⊆ tcRefs τ sig := ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem subD : (opsD : List (HloOp τ sig (Elt F))).Forall fun op => op.bufs ⊆ tcRefs τ sig := ⟨reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub ..⟩
theorem ops_sub : (ops : List (HloOp τ sig (Elt F))).Forall fun op => op.bufs ⊆ tcRefs τ sig := by
  unfold ops
  rw [List.forall_append, List.forall_append, List.forall_append]
  exact ⟨subA, subB, subC, subD⟩

/-! ## What the four stretches leave, as functions of the two arguments -/

/-- The first argument, one row per vector. -/
def xRows (x : FVec F S8x1024x32 .f32) : FVec F S8192x32 .f32 := shapeCast S8192x32 x shapeCasts_S8x1024x32_S8192x32
/-- The sum over the second axis of the squares. -/
def sqSums (x : FVec F S8192x32 .f32) : FVec F S8192 .f32 :=
  Host.reduceAdd (mulf x x) (constant S_ .f32 0x00000000#32) reducesTo_S8192x32_S8192_d1 h_S_
/-- The table of distances. -/
def dists (x : FVec F S8192x32 .f32) (w : FVec F S8192x32 .f32) : FVec F S8192x8192 .f32 :=
  addf
    (subf (broadcastInDim S8192x8192 ![0, 1] bcast_S8192x1_S8192x8192_0_1 (broadcastInDim S8192x1 ![0] bcast_S8192_S8192x1_0 (sqSums x)))
      (Host.dotGeneral dot_S8192x32_S32x8192_S8192x8192_1_0_0_1_n_n none
        (mulf (broadcastInDim S8192x32 ![] bcast_S_S8192x32 (constant S_ .f32 0x40000000#32)) x)
        (transpose S32x8192 [1, 0] w transposes_S8192x32_S32x8192_1_0)))
    (broadcastInDim S8192x8192 ![0, 1] bcast_S1x8192_S8192x8192_0_1 (broadcastInDim S1x8192 ![1] bcast_S8192_S1x8192_1 (sqSums w)))
/-- The column of the least entry of each row. -/
def least (t : FVec F S8192x8192 .f32) : IVec S8192 32 := fun j =>
  (Host.argReduce reducer_argmin_f32_i32 t (iotaInDim S8192x8192 32 1) (constant S_ .f32 0x7F800000#32) (constantI S_ 32 0#32)
    reducesTo_S8192x8192_S8192_d1 h_S_ j).2
/-- The columns, one to a row. -/
def column (i : IVec S8192 32) : IVec S8192x1 32 := broadcastInDim S8192x1 ![0] bcast_S8192_S8192x1_0 i
/-- The columns flattened again. -/
def flat (i : IVec S8192x1 32) : IVec S8192 32 := shapeCast S8192 i shapeCasts_S8192x1_S8192
/-- The places to read: a negative index counts from the end. -/
def places (i : IVec S8192 32) : IVec S8192x1 32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 8192#32))) i)
/-- Which places lie inside the codebook. -/
def inside (p : IVec S8192x1 32) : IVec S8192 1 :=
  Host.reduce IntOp.andi
    (andi (cmpi .sge p (broadcastInDim S8192x1 ![] bcast_S_S8192x1 (constantI S_ 32 0#32)))
      (cmpi .sle p (broadcastInDim S8192x1 ![0, 1] bcast_S1x1_S8192x1_0_1 (broadcastInDim S1x1 ![1] bcast_S1_S1x1_1 (constantI S1 32 8191#32)))))
    (constantI S_ 1 1#1) reducesTo_S8192x1_S8192_d1 h_S_
/-- The rows of the codebook at those places. -/
def taken (w : FVec F S8192x32 .f32) (p : IVec S8192x1 32) : FVec F S8192x32 .f32 :=
  select (broadcastInDim S8192x32 ![0] bcast_S8192_S8192x32_0 (inside p))
    (Host.gather gather_S8192x32_S8192x1_S8192x32_1_0_n_n_0_1_132 w p)
    (broadcastInDim S8192x32 ![] bcast_S_S8192x32 (constant S_ .f32 0x7FC00000#32))
/-- The mean of the squared differences. -/
def mean (q x : FVec F S8x1024x32 .f32) : FVec F S_ .f32 :=
  Host.divf (Host.reduceAdd (mulf (subf q x) (subf q x)) (constant S_ .f32 0x00000000#32) reducesTo_S8x1024x32_S_d0_1_2 h_S_)
    (constant S_ .f32 0x48800000#32)
/-- The loss. -/
def loss (q x : FVec F S8x1024x32 .f32) : FVec F S_ .f32 :=
  addf (mean q x) (mulf (constant S_ .f32 0x3E800000#32) (mean q x))

variable (V : Valuation τ sig (Elt F))

theorem afterA_v14 : after opsA V (main_v14 : DevRef τ sig) = dists (xRows (V (main_arg0 : DevRef τ sig))) (V (main_arg1 : DevRef τ sig)) := by
  after_reads_simp
  rfl
theorem afterA_arg0 : after opsA V (main_arg0 : DevRef τ sig) = V (main_arg0 : DevRef τ sig) := by after_reads_simp
theorem afterA_arg1 : after opsA V (main_arg1 : DevRef τ sig) = V (main_arg1 : DevRef τ sig) := by after_reads_simp
theorem afterB_v16 : after opsB V (main_v16 : DevRef τ sig) = column (least (V (main_v14 : DevRef τ sig))) := by
  after_reads_simp
  rfl
theorem afterB_v17 : after opsB V (main_v17 : DevRef τ sig) = flat (column (least (V (main_v14 : DevRef τ sig)))) := by
  after_reads_simp
  rfl
theorem afterB_arg0 : after opsB V (main_arg0 : DevRef τ sig) = V (main_arg0 : DevRef τ sig) := by after_reads_simp
theorem afterB_arg1 : after opsB V (main_arg1 : DevRef τ sig) = V (main_arg1 : DevRef τ sig) := by after_reads_simp
theorem afterC_v18 : after opsC V (main_v18 : DevRef τ sig) = taken (V (main_arg1 : DevRef τ sig)) (places (V (main_v17 : DevRef τ sig))) := by
  after_reads_simp
  rfl
theorem afterC_v16 : after opsC V (main_v16 : DevRef τ sig) = V (main_v16 : DevRef τ sig) := by after_reads_simp
theorem afterC_arg0 : after opsC V (main_arg0 : DevRef τ sig) = V (main_arg0 : DevRef τ sig) := by after_reads_simp
theorem afterC_arg1 : after opsC V (main_arg1 : DevRef τ sig) = V (main_arg1 : DevRef τ sig) := by after_reads_simp
theorem afterD_v31 : after opsD V (main_v31 : DevRef τ sig)
    = addf (V (main_arg0 : DevRef τ sig)) (subf (shapeCast S8x1024x32 (V (main_v18 : DevRef τ sig)) shapeCasts_S8192x32_S8x1024x32) (V (main_arg0 : DevRef τ sig))) := by
  after_reads_simp
  rfl
theorem afterD_v29 : after opsD V (main_v29 : DevRef τ sig)
    = loss (shapeCast S8x1024x32 (V (main_v18 : DevRef τ sig)) shapeCasts_S8192x32_S8x1024x32) (V (main_arg0 : DevRef τ sig)) := by
  after_reads_simp
  rfl
theorem afterD_v16 : after opsD V (main_v16 : DevRef τ sig) = V (main_v16 : DevRef τ sig) := by after_reads_simp
theorem afterD_arg0 : after opsD V (main_arg0 : DevRef τ sig) = V (main_arg0 : DevRef τ sig) := by after_reads_simp
theorem afterD_arg1 : after opsD V (main_arg1 : DevRef τ sig) = V (main_arg1 : DevRef τ sig) := by after_reads_simp

theorem after_cut : after ops V = after opsD (after opsC (after opsB (after opsA V))) := by
  unfold ops
  rw [after_append, after_append, after_append]

/-- The columns of the least distances. -/
def refIdx (x : FVec F S8x1024x32 .f32) (w : FVec F S8192x32 .f32) : IVec S8192x1 32 := column (least (dists (xRows x) w))
/-- The nearest rows of the codebook, in the first argument's form. -/
def refNear (x : FVec F S8x1024x32 .f32) (w : FVec F S8192x32 .f32) : FVec F S8x1024x32 .f32 :=
  shapeCast S8x1024x32 (taken w (places (flat (refIdx x w)))) shapeCasts_S8192x32_S8x1024x32
/-- The first result. -/
def refOut (x : FVec F S8x1024x32 .f32) (w : FVec F S8192x32 .f32) : FVec F S8x1024x32 .f32 := addf x (subf (refNear x w) x)
/-- The second result. -/
def refLoss (x : FVec F S8x1024x32 .f32) (w : FVec F S8192x32 .f32) : FVec F S_ .f32 := loss (refNear x w) x

theorem at_arg0 : after ops V (main_arg0 : DevRef τ sig) = V (main_arg0 : DevRef τ sig) := by
  rw [after_cut, afterD_arg0, afterC_arg0, afterB_arg0, afterA_arg0]
theorem at_arg1 : after ops V (main_arg1 : DevRef τ sig) = V (main_arg1 : DevRef τ sig) := by
  rw [after_cut, afterD_arg1, afterC_arg1, afterB_arg1, afterA_arg1]
theorem at_v16 : after ops V (main_v16 : DevRef τ sig) = refIdx (V (main_arg0 : DevRef τ sig)) (V (main_arg1 : DevRef τ sig)) := by
  rw [after_cut, afterD_v16, afterC_v16, afterB_v16, afterA_v14]
  rfl
theorem near : after opsC (after opsB (after opsA V)) (main_v18 : DevRef τ sig)
    = taken (V (main_arg1 : DevRef τ sig)) (places (flat (refIdx (V (main_arg0 : DevRef τ sig)) (V (main_arg1 : DevRef τ sig))))) := by
  rw [afterC_v18, afterB_arg1, afterA_arg1, afterB_v17, afterA_v14]
  rfl
theorem at_v31 : after ops V (main_v31 : DevRef τ sig) = refOut (V (main_arg0 : DevRef τ sig)) (V (main_arg1 : DevRef τ sig)) := by
  rw [after_cut, afterD_v31, near, afterC_arg0, afterB_arg0, afterA_arg0]
  rfl
theorem at_v29 : after ops V (main_v29 : DevRef τ sig) = refLoss (V (main_arg0 : DevRef τ sig)) (V (main_arg1 : DevRef τ sig)) := by
  rw [after_cut, afterD_v29, near, afterC_arg0, afterB_arg0, afterA_arg0]
  rfl

/-- Every execution of the reference ends with the three results in place, the arguments as they were, and every semaphore zero. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v31) = refOut (m ((c.tc : Thread nD τ).loc main_arg0)) (m ((c.tc : Thread nD τ).loc main_arg1))
        ∧ r.2.mem ((c.tc : Thread nD τ).loc main_v29) = refLoss (m ((c.tc : Thread nD τ).loc main_arg0)) (m ((c.tc : Thread nD τ).loc main_arg1))
        ∧ r.2.mem ((c.tc : Thread nD τ).loc main_v16) = refIdx (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c main_v31).trans (at_v31 _), (h c main_v29).trans (at_v29 _), (h c main_v16).trans (at_v16 _),
      (h c main_arg0).trans (at_arg0 _), (h c main_arg1).trans (at_arg1 _)⟩, sem_eq_zero_of_no_sems rfl r.2⟩)
    (run_seq scopedRefs_eq scopedSems_eq defs main (fun _ => ops) main_eq (fun _ => ops_sub) m ρ)

end Cert.Proof.RefRun
-- ==== Proof.Score.lean ====
/-
  The two tables of distances, entry by entry over the extended reals: the sum of the row's squares, less twice the
  product with the code, plus the sum of the code's squares.
-/
module

public import proofs.«01_k».proof.Proof.Row
public import proofs.«01_k».proof.Proof.RefRun
public import Idealize.ShloMosaic.Lib.Pointwise

@[expose] public section

set_option maxRecDepth 16384

noncomputable section

namespace Cert.Proof.Score

open Cert.Proof.Row
open Idealize.ShloMosaic

/-- The distance of a row to a code, as both programs compute it. -/
def dist (x w : Fin 32 → EReal) : EReal := (∑ j, x j * x j) - (∑ j, 2 * x j * w j) + ∑ j, w j * w j

theorem two_bits : Ideal.ofBits .f32 0x40000000#32 = 2 := by
  simp [Ideal.ofBits, Ideal.ieee]
  rw [← EReal.coe_mul]
  norm_num
  rfl
theorem one_bits : Ideal.ofBits .f32 0x3F800000#32 = 1 := by
  simp [Ideal.ofBits, Ideal.ieee]
  rw [← EReal.coe_mul]
  norm_num

section Kernel
open Cert.KernelIdeal Cert.KernelIdeal.Gen

variable (x : Vec Ideal S512x32 .f32) (w : Vec Ideal S8192x32 .f32) (r : Fin 512) (k : Fin 8192)

theorem cross (a : FVec Ideal S512x32 .bf16) (b : FVec Ideal S8192x32 .f32) :
    matmul dot_S512x32_S8192x32_S512x8192_1_1_0_0_n_n none a b (constant S512x8192 .f32 0x00000000#32) (ix2 r k)
      = ∑ j : Fin 32, a (ix2 r j) * b (ix2 k j) := by
  simp only [pointwise, Ideal.ofBits_zero_f32, zero_add]

theorem ones (a : FVec Ideal S512x32 .f32) (b : FVec Ideal S32x128 .f32) (c : Fin 128) :
    matmul dot_S512x32_S32x128_S512x128_1_0_0_1_n_n (some .fp32) a b (constant S512x128 .f32 0x00000000#32) (ix2 r c)
      = ∑ j : Fin 32, a (ix2 r j) * b (ix2 j c) := by
  simp only [pointwise, Ideal.ofBits_zero_f32, zero_add]

theorem firstLane (a : FVec Ideal S512x128 .f32) :
    broadcastTo S512x8192 (extractStridedSlice S512x1 ![0, 0] a slices_S512x128_o0_0_S512x1) broadcasts_S512x1_S512x8192 (ix2 r k)
      = a (ix2 r 0) := by
  simp only [pointwise]
  exact congrArg a (Shape.idx_ext₂ (by simp) rfl)

theorem acrossRow (a : FVec Ideal S8192 .f32) :
    broadcastTo S512x8192 (shapeCast S1x8192 a shapeCasts_S8192_S1x8192) broadcasts_S1x8192_S512x8192 (ix2 r k) = a (ix1 k) := by
  simp only [pointwise]
  simp

theorem laneSum (a : FVec Ideal S8192x32 .f32) :
    multiReduction .add [1] S8192 a 0x00000000#32 reduces_S8192x32_S8192 (.inl rfl) rfl (ix1 k) = ∑ j : Fin 32, a (ix2 k j) :=
  (Ideal.multiReduction_add_single a 0x00000000#32 reduces_S8192x32_S8192 (.inl rfl) rfl (ix1 k)).trans
    (Finset.sum_congr rfl fun j _ => congrArg a (Shape.idx_ext₂ rfl rfl))

/-- The kernel's score. -/
theorem score_eq : score x w r k = dist (fun j => x (ix2 r j)) (fun j => w (ix2 k j)) := by
  unfold score k0_pay8
  dsimp only
  rw [shapeCast_self]
  show broadcastTo S512x8192 _ _ (ix2 r k) - matmul _ _ _ _ _ (ix2 r k) + broadcastTo S512x8192 _ _ (ix2 r k) = _
  rw [firstLane, acrossRow, cross, ones, laneSum]
  unfold dist
  refine congrArg₂ (· + ·) (congrArg₂ (· - ·) (Finset.sum_congr rfl fun j _ => ?_) (Finset.sum_congr rfl fun j _ => ?_)) rfl
  · show x (ix2 r j) * x (ix2 r j) * Ideal.ofBits .f32 0x3F800000#32 = _
    rw [one_bits, mul_one]
  · show x (ix2 r j) * Ideal.ofBits .f32 0x40000000#32 * w (ix2 k j) = _
    rw [two_bits, mul_comm (x (ix2 r j)) 2]

end Kernel

section Reference
open Cert.ReferenceIdeal Cert.ReferenceIdeal.Gen Cert.Proof.RefRun

variable (x w : FVec Ideal S8192x32 .f32) (R k : Fin 8192)

theorem sqSums_apply : sqSums (F := Ideal) x (ix1 R) = ∑ j : Fin 32, x (ix2 R j) * x (ix2 R j) := by
  have h := Ideal.hostReduceAdd_single reducesTo_S8192x32_S8192_d1 (by decide) (mulf x x) (Ideal.ofBits .f32 0x00000000#32) (ix1 R)
  refine Eq.trans (b := Ideal.hostReduceAdd reducesTo_S8192x32_S8192_d1 (mulf x x) (Ideal.ofBits .f32 0x00000000#32) (ix1 R)) rfl (h.trans ?_)
  rw [Ideal.ofBits_zero_f32, zero_add]
  exact Finset.sum_congr rfl fun j _ => congrArg (fun i : S8192x32.Idx => x i * x i) (Shape.idx_ext₂ rfl rfl)

theorem product (a : FVec Ideal S8192x32 .f32) :
    Host.dotGeneral dot_S8192x32_S32x8192_S8192x8192_1_0_0_1_n_n none a (transpose S32x8192 [1, 0] w transposes_S8192x32_S32x8192_1_0) (ix2 R k)
      = ∑ j : Fin 32, a (ix2 R j) * w (ix2 k j) := by
  simp only [pointwise, zero_add]

theorem downColumn (a : FVec Ideal S8192 .f32) :
    broadcastInDim S8192x8192 ![0, 1] bcast_S8192x1_S8192x8192_0_1 (broadcastInDim S8192x1 ![0] bcast_S8192_S8192x1_0 a) (ix2 R k) = a (ix1 R) := by
  simp only [pointwise]
  simp
theorem alongRow (a : FVec Ideal S8192 .f32) :
    broadcastInDim S8192x8192 ![0, 1] bcast_S1x8192_S8192x8192_0_1 (broadcastInDim S1x8192 ![1] bcast_S8192_S1x8192_1 a) (ix2 R k) = a (ix1 k) := by
  simp only [pointwise]
  simp

/-- The reference's distance. -/
theorem dists_eq : dists (F := Ideal) x w (ix2 R k) = dist (fun j => x (ix2 R j)) (fun j => w (ix2 k j)) := by
  unfold dists
  show broadcastInDim S8192x8192 _ _ _ (ix2 R k) - Host.dotGeneral (F := Ideal) _ _ _ _ (ix2 R k) + broadcastInDim S8192x8192 _ _ _ (ix2 R k) = _
  rw [downColumn, alongRow, product, sqSums_apply, sqSums_apply]
  unfold dist
  refine congrArg₂ (· + ·) (congrArg₂ (· - ·) rfl (Finset.sum_congr rfl fun j _ => ?_)) rfl
  show Ideal.ofBits .f32 0x40000000#32 * x (ix2 R j) * w (ix2 k j) = _
  rw [two_bits]

end Reference

end Cert.Proof.Score
-- ==== Proof.RefArg.lean ====
/-
  The reference's own choice, over the extended reals: the first position of the least distance of a row.
-/
module

public import proofs.«01_k».proof.Proof.Nearest
public import proofs.«01_k».proof.Proof.RefRun
public import Idealize.ShloMosaic.PureOps.Ideal.Laws
public import Idealize.ShloMosaic.Lib.Pointwise
public import Idealize.ShloMosaic.Lib.Pipeline.Value

@[expose] public section

set_option maxRecDepth 16384

noncomputable section

namespace Cert.Proof.RefArg

open Cert.ReferenceIdeal Cert.ReferenceIdeal.Gen Cert.Proof.Nearest Cert.Proof.RefRun
open Idealize.ShloMosaic

/-- A filtered list of numbers is any increasing list of the same members. -/
theorem filter_eq_map {N n : ℕ} (p : Fin N → Bool) (e : Fin n → Fin N) (hmono : ∀ a b, a < b → e a < e b)
    (hp : ∀ i, p i = true ↔ ∃ k, e k = i) : (List.finRange N).filter p = (List.finRange n).map e := by
  refine List.Pairwise.eq_of_mem_iff (r := (· < ·)) ((List.pairwise_lt_finRange N).filter _)
    (List.pairwise_map.mpr ((List.pairwise_lt_finRange n).imp fun {a b} h => hmono a b h)) fun i => ?_
  rw [List.mem_filter, List.mem_map]
  constructor
  · rintro ⟨-, h⟩
    obtain ⟨k, hk⟩ := (hp i).mp h
    exact ⟨k, List.mem_finRange k, hk⟩
  · rintro ⟨k, -, hk⟩
    exact ⟨List.mem_finRange i, (hp i).mpr ⟨k, hk⟩⟩

theorem reduces_row : S8192x8192.Reduces [1] S8192 := by decide

theorem lift_row (R k : Fin 8192) : reduces_row.lift (ix1 R : S8192.Idx) k = (ix2 R k : S8192x8192.Idx) :=
  Shape.idx_ext₂ rfl rfl

/-- The entries that a row's reduction reads, in order. -/
theorem fiber {α β : Type} (x : S8192x8192.Idx → α) (y : S8192x8192.Idx → β) (R : Fin 8192) :
    Host.argReduceFiber x y reducesTo_S8192x8192_S8192_d1 (ix1 R : S8192.Idx)
      = (List.finRange 8192).map fun k => (x (ix2 R k), y (ix2 R k)) := by
  unfold Host.argReduceFiber
  rw [filter_eq_map _ (fun k : Fin 8192 => S8192x8192.rowMajor (ix2 R k)) ?_ ?_, List.map_map]
  · refine List.map_congr_left fun k _ => ?_
    show (x (S8192x8192.rowMajor.symm (S8192x8192.rowMajor (ix2 R k))), y (S8192x8192.rowMajor.symm (S8192x8192.rowMajor (ix2 R k)))) = _
    rw [Equiv.symm_apply_apply]
  · intro a b h
    show (S8192x8192.rowMajor (ix2 R a)).val < (S8192x8192.rowMajor (ix2 R b)).val
    rw [Shape.rowMajor_val_two, Shape.rowMajor_val_two]
    have h' : a.val < b.val := h
    simp
    exact h
  · intro i
    rw [decide_eq_true_iff, Shape.ReducesTo.drop_eq_drop reducesTo_S8192x8192_S8192_d1 reduces_row]
    constructor
    · intro h
      refine ⟨(S8192x8192.rowMajor.symm i) 1, ?_⟩
      have h' := reduces_row.lift_drop (S8192x8192.rowMajor.symm i)
      rw [h] at h'
      rw [Equiv.apply_eq_iff_eq_symm_apply]
      exact (lift_row R _).symm.trans h'
    · rintro ⟨k, rfl⟩
      rw [Equiv.symm_apply_apply, ← lift_row]
      exact reduces_row.drop_lift _ _

theorem ofBits_inf : Ideal.ofBits .f32 0x7F800000#32 = ⊤ := by simp [Ideal.ofBits, Ideal.ieee]

/-- The reference's body keeps the lesser of two entries, and of two equal ones the one of the lesser number. -/
theorem keeps : Keeps (reducer_argmin_f32_i32 (F := Ideal)) := by
  rintro ⟨a, i⟩ ⟨b, j⟩
  unfold reducer_argmin_f32_i32
  show (Scalar.select (IntOp.ori (Ideal.cmp .olt a b) (Ideal.cmp .une a a)) a b,
    Scalar.select (IntOp.ori (IntOp.ori (Ideal.cmp .olt a b) (Ideal.cmp .une a a)) (IntOp.andi (Ideal.cmp .oeq a b) (IntOp.cmpi .slt i j))) i j) = _
  have hu : Ideal.cmp .une a a = 0#1 := by simp [Ideal.cmp]
  rw [hu]
  by_cases h : a < b
  · have h1 : Ideal.cmp .olt a b = 1#1 := by simp [Ideal.cmp, h]
    have h2 : ∀ z : BitVec 1, IntOp.ori (IntOp.ori 1#1 0#1) z = 1#1 := by decide
    rw [h1, h2, if_pos (Or.inl h)]
    rfl
  · have h1 : Ideal.cmp .olt a b = 0#1 := by simp [Ideal.cmp, h]
    have h2 : ∀ z : BitVec 1, IntOp.ori (IntOp.ori 0#1 0#1) z = z := by decide
    rw [h1, h2]
    by_cases he : a = b
    · subst he
      have h3 : Ideal.cmp .oeq a a = 1#1 := by simp [Ideal.cmp]
      have h4 : ∀ z : BitVec 1, IntOp.andi 1#1 z = z := by decide
      rw [h3, h4]
      by_cases hs : i.slt j = true
      · have h5 : IntOp.cmpi .slt i j = 1#1 := by simp [IntOp.cmpi, hs]
        rw [h5, if_pos (Or.inr ⟨rfl, hs⟩)]
        rfl
      · have h5 : IntOp.cmpi .slt i j = 0#1 := by simp [IntOp.cmpi, hs]
        rw [h5, if_neg]
        · rfl
        · rintro (h' | h')
          · exact h h'
          · exact hs h'.2
    · have h3 : Ideal.cmp .oeq a b = 0#1 := by simp [Ideal.cmp, he]
      have h4 : ∀ z : BitVec 1, IntOp.andi 0#1 z = 0#1 := by decide
      rw [h3, h4, if_neg]
      · rfl
      · rintro (h' | h')
        · exact h h'
        · exact he h'.1

theorem iota_apply (R k : Fin 8192) : iotaInDim S8192x8192 32 1 (ix2 R k : S8192x8192.Idx) = BitVec.ofNat 32 k.val := rfl

theorem start_eq : ((constant S_ .f32 0x7F800000#32 : FVec Ideal S_ .f32) (Shape.Idx.first h_S_), constantI S_ 32 0#32 (Shape.Idx.first h_S_))
    = ((⊤ : EReal), 0#32) :=
  Prod.ext ofBits_inf rfl

theorem least_unfolded (t : FVec Ideal S8192x8192 .f32) :
    least (F := Ideal) t = fun j => (Host.argReduce (F := Ideal) reducer_argmin_f32_i32 t (iotaInDim S8192x8192 32 1) (constant S_ .f32 0x7F800000#32)
      (constantI S_ 32 0#32) reducesTo_S8192x8192_S8192_d1 h_S_ j).2 := rfl

theorem pairs (t : FVec Ideal S8192x8192 .f32) (R : Fin 8192) :
    Host.argReduce (F := Ideal) reducer_argmin_f32_i32 t (iotaInDim S8192x8192 32 1) (constant S_ .f32 0x7F800000#32)
        (constantI S_ 32 0#32) reducesTo_S8192x8192_S8192_d1 h_S_ (ix1 R)
      = ((List.finRange 8192).map fun k => (t (ix2 R k), iotaInDim S8192x8192 32 1 (ix2 R k : S8192x8192.Idx))).foldl
          (reducer_argmin_f32_i32 (F := Ideal)) ((constant S_ .f32 0x7F800000#32 : FVec Ideal S_ .f32) (Shape.Idx.first h_S_), constantI S_ 32 0#32 (Shape.Idx.first h_S_)) := by
  rw [Ideal.argReduce_eq_reduce2, Host.reduce2_eq_foldl_fiber, fiber]

theorem pairs_fold (t : FVec Ideal S8192x8192 .f32) (R : Fin 8192) :
    Host.argReduce (F := Ideal) reducer_argmin_f32_i32 t (iotaInDim S8192x8192 32 1) (constant S_ .f32 0x7F800000#32)
        (constantI S_ 32 0#32) reducesTo_S8192x8192_S8192_d1 h_S_ (ix1 R)
      = ((List.finRange 8192).map fun k => (t (ix2 R k), BitVec.ofNat 32 k.val)).foldl
          (reducer_argmin_f32_i32 (F := Ideal)) ((⊤ : EReal), 0#32) := by
  rw [pairs, start_eq]
  simp only [iota_apply]

/-- The reference's column is the first of the row's least. -/
theorem least_first (t : FVec Ideal S8192x8192 .f32) (R : Fin 8192) :
    ∃ k : Fin 8192, First (fun k => t (ix2 R k)) k ∧ least (F := Ideal) t (ix1 R) = BitVec.ofNat 32 k.val := by
  obtain ⟨k, hk, h⟩ := pass_first (fun k => t (ix2 R k)) _ keeps
  exact ⟨k, hk, (congrFun (least_unfolded t) (ix1 R)).trans (congrArg Prod.snd ((pairs_fold t R).trans h))⟩

/-! ## The rows read at those columns -/

/-- A place in the codebook, read back from the list of columns. -/
theorem places_apply (i : IVec S8192 32) (R k : Fin 8192) (h : i (ix1 R) = BitVec.ofNat 32 k.val) :
    places i (ix2 R 0) = BitVec.ofNat 32 k.val := by
  unfold places
  rw [broadcastInDim_apply ![0] bcast_S8192_S8192x1_0 _ (ix2 R 0 : S8192x1.Idx) (ix1 R : S8192.Idx) (by
    intro a; match a with | ⟨0, _⟩ => rfl)]
  show Scalar.select (IntOp.cmpi .slt (i (ix1 R)) 0#32) (i (ix1 R) + 8192#32) (i (ix1 R)) = _
  rw [h]
  have hs : (BitVec.ofNat 32 k.val).slt 0#32 = false := by
    rw [BitVec.slt_eq_decide, BitVec.toInt_eq_toNat_of_lt (by rw [BitVec.toNat_ofNat]; have := k.isLt; omega)]
    exact decide_eq_false (not_lt.mpr (Int.natCast_nonneg _))
  have h5 : IntOp.cmpi .slt (BitVec.ofNat 32 k.val) 0#32 = 0#1 := by simp [IntOp.cmpi, hs]
  rw [h5]
  rfl

theorem reduces_unit : S8192x1.Reduces [1] S8192 := by decide

theorem inside_apply (p : IVec S8192x1 32) (R k : Fin 8192) (h : p (ix2 R 0) = BitVec.ofNat 32 k.val) : inside p (ix1 R) = 1#1 := by
  unfold inside
  rw [Host.reduce_eq_fold_single IntOp.andi _ _ reducesTo_S8192x1_S8192_d1 reduces_unit h_S_ (ix1 R)]
  refine (Finset.fold_singleton (op := IntOp.andi) (a := (0 : Fin 1))).trans ?_
  have hl : reduces_unit.lift (ix1 R : S8192.Idx) (0 : Fin 1) = (ix2 R 0 : S8192x1.Idx) := Shape.idx_ext₂ rfl rfl
  show IntOp.andi (andi (cmpi .sge p _) (cmpi .sle p _) (reduces_unit.lift (ix1 R : S8192.Idx) (0 : Fin 1))) 1#1 = 1#1
  rw [hl]
  show IntOp.andi (IntOp.andi (IntOp.cmpi .sge (p (ix2 R 0)) 0#32) (IntOp.cmpi .sle (p (ix2 R 0)) 8191#32)) 1#1 = 1#1
  rw [h]
  have hk : (BitVec.ofNat 32 k.val).toInt = (k.val : ℤ) := by
    rw [BitVec.toInt_eq_toNat_of_lt (by rw [BitVec.toNat_ofNat]; have := k.isLt; omega), BitVec.toNat_ofNat,
      Nat.mod_eq_of_lt (lt_trans k.isLt (by decide))]
  have h1 : IntOp.cmpi .sge (BitVec.ofNat 32 k.val) 0#32 = 1#1 := by
    simp [IntOp.cmpi, BitVec.sle_eq_decide, hk]
  have h2 : IntOp.cmpi .sle (BitVec.ofNat 32 k.val) 8191#32 = 1#1 := by
    have h8 : (8191#32).toInt = 8191 := by decide
    have hb : (BitVec.ofNat 32 k.val).sle 8191#32 = true := by
      rw [BitVec.sle_eq_decide, hk, h8]
      have := k.isLt
      exact decide_eq_true (by omega)
    simp [IntOp.cmpi, hb]
  rw [h1, h2]
  rfl

theorem gather_apply (w : FVec Ideal S8192x32 .f32) (p : IVec S8192x1 32) (R k : Fin 8192) (c : Fin 32)
    (h : p (ix2 R 0) = BitVec.ofNat 32 k.val) :
    Host.gather gather_S8192x32_S8192x1_S8192x32_1_0_n_n_0_1_132 w p (ix2 R c) = w (ix2 k c) := by
  unfold Host.gather
  refine congrArg w (Shape.idx_ext₂ ?_ ?_)
  · show GatherDims.start _ (ix2 R c) p 0 + GatherDims.batchCoord _ (ix2 R c) 0 + GatherDims.offCoord _ (ix2 R c) 0 = k.val
    rw [GatherDims.batchCoord_eq_zero _ _ _ (by decide), GatherDims.offCoord_eq_zero _ _ _ (by decide)]
    unfold GatherDims.start
    rw [dif_pos (by decide)]
    have hsi : GatherDims.siIdx gather_S8192x32_S8192x1_S8192x32_1_0_n_n_0_1_132 (ix2 R c : S8192x32.Idx) ⟨0, by decide⟩ = (ix2 R 0 : S8192x1.Idx) :=
      Shape.idx_ext₂ rfl rfl
    show min (p (GatherDims.siIdx gather_S8192x32_S8192x1_S8192x32_1_0_n_n_0_1_132 (ix2 R c : S8192x32.Idx) ⟨0, by decide⟩)).toInt.toNat (8192 - 1) + 0 + 0 = k.val
    rw [hsi, h, BitVec.toInt_eq_toNat_of_lt (by rw [BitVec.toNat_ofNat]; have := k.isLt; omega), BitVec.toNat_ofNat,
      Nat.mod_eq_of_lt (lt_trans k.isLt (by decide))]
    rw [Int.toNat_natCast]
    have := k.isLt
    omega
  · show GatherDims.start _ (ix2 R c) p 1 + GatherDims.batchCoord _ (ix2 R c) 1 + GatherDims.offCoord _ (ix2 R c) 1 = c.val
    rw [GatherDims.batchCoord_eq_zero _ _ _ (by decide)]
    unfold GatherDims.start
    rw [dif_neg (by decide)]
    show 0 + 0 + c.val = c.val
    omega

theorem taken_apply (w : FVec Ideal S8192x32 .f32) (p : IVec S8192x1 32) (R k : Fin 8192) (c : Fin 32)
    (h : p (ix2 R 0) = BitVec.ofNat 32 k.val) : taken w p (ix2 R c) = w (ix2 k c) := by
  unfold taken
  show Scalar.select (broadcastInDim S8192x32 ![0] bcast_S8192_S8192x32_0 (inside p) (ix2 R c)) (Host.gather _ w p (ix2 R c)) _ = _
  rw [broadcastInDim_apply ![0] bcast_S8192_S8192x32_0 _ (ix2 R c : S8192x32.Idx) (ix1 R : S8192.Idx) (by
    intro a; match a with | ⟨0, _⟩ => rfl), inside_apply p R k h, gather_apply w p R k c h]
  rfl

end Cert.Proof.RefArg
-- ==== Proof.Match.lean ====
/-
  Both programs name the same code for every row, and so leave the same numbers and the same rows of the codebook.
-/
module

public import proofs.«01_k».proof.Proof.Place
public import proofs.«01_k».proof.Proof.Score
public import proofs.«01_k».proof.Proof.RefArg
public import Idealize.ShloMosaic.Lib.KernelVsHost

@[expose] public section

set_option maxRecDepth 16384

noncomputable section

namespace Cert.Proof.Match

open Cert.KernelIdeal Cert.KernelIdeal.Gen
open Cert.Proof.Task Cert.Proof.Main Cert.Proof.Nearest Cert.Proof.Row Cert.Proof.Ends Cert.Proof.Place Cert.Proof.Score
open Idealize.ShloMosaic Idealize.ShloMosaic.TcCoe

variable (m : (ℓ : Loc nD τ sig) → Buf (Elt Ideal) ℓ) (d : Dev nD)

/-- The distance of row `R` to code `k`. -/
def far (R k : Fin 8192) : EReal := dist (fun j => rows m d (ix2 R j : S8192x32.Idx)) (fun j => codes m d (ix2 k j : S8192x32.Idx))

theorem score_far (t : Fin 16) (r : Fin 512) : score (blkX m d t) (blkW m d t) r = far m d (rowOf t r) := by
  funext k
  refine (score_eq _ _ r k).trans (congrArg₂ dist (funext fun j => blkX_apply m d t r j) (funext fun j => ?_))
  rw [blkW_eq]

/-- The code nearest to a row, as the kernel finds it. -/
theorem kernel_first (t : Fin 16) (r : Fin 512) : ∃ k : Fin 8192, First (far m d (rowOf t r)) k
    ∧ Body.idxBlk (blkX m d t) (blkW m d t) (ix3 0 0 r) = BitVec.ofNat 32 k.val
    ∧ rowMin (blkX m d t) (blkW m d t) r = far m d (rowOf t r) k := by
  obtain ⟨k, h1, h2, h3⟩ := row (blkX m d t) (blkW m d t) r
  rw [score_far] at h1 h3
  exact ⟨k, h1, h2, h3⟩

theorem some_first (R : Fin 8192) : ∃ k, First (far m d R) k := by
  obtain ⟨t, r, rfl⟩ := rowOf_split R
  obtain ⟨k, h, -⟩ := kernel_first m d t r
  exact ⟨k, h⟩

/-- The code nearest to row `R`, the first of them where several are. -/
def near (R : Fin 8192) : Fin 8192 := Classical.choose (some_first m d R)

theorem near_first (R : Fin 8192) : First (far m d R) (near m d R) := Classical.choose_spec (some_first m d R)

theorem kernel_idx (t : Fin 16) (r : Fin 512) :
    Body.idxBlk (blkX m d t) (blkW m d t) (ix3 0 0 r) = BitVec.ofNat 32 (near m d (rowOf t r)).val := by
  obtain ⟨k, h1, h2, -⟩ := kernel_first m d t r
  rw [h2, h1.unique (near_first m d _)]

theorem kernel_min (t : Fin 16) (r : Fin 512) :
    rowMin (blkX m d t) (blkW m d t) r = far m d (rowOf t r) (near m d (rowOf t r)) := by
  obtain ⟨k, h1, -, h3⟩ := kernel_first m d t r
  rw [h3, h1.unique (near_first m d _)]

theorem ind_near (R : Fin 8192) : ind m d (ix1 R : S8192.Idx) = BitVec.ofNat 32 (near m d R).val := by
  obtain ⟨t, r, rfl⟩ := rowOf_split R
  rw [ind_apply, kernel_idx]

theorem end_near (R : Fin 8192) : V3 m d main_v2 (ix2 R 0 : S8192x1.Idx) = BitVec.ofNat 32 (near m d R).val := by
  obtain ⟨t, r, rfl⟩ := rowOf_split R
  rw [end_indices_apply, kernel_idx]

/-- The reference's table of distances. -/
def table : FVec Ideal Cert.ReferenceIdeal.S8192x8192 .f32 := RefRun.dists (F := Ideal) (rows m d) (codes m d)

theorem table_far (R : Fin 8192) : (fun k : Fin 8192 => table m d (ix2 R k)) = far m d R := funext fun k => dists_eq _ _ R k

theorem least_near (R : Fin 8192) : RefRun.least (F := Ideal) (table m d) (ix1 R) = BitVec.ofNat 32 (near m d R).val := by
  obtain ⟨k, h1, h2⟩ := RefArg.least_first (table m d) R
  rw [table_far] at h1
  rw [h2, h1.unique (near_first m d R)]

theorem column_of {α : Type} (i : S8192.Idx → α) (R : Fin 8192) :
    broadcastInDim S8192x1 ![0] Cert.ReferenceIdeal.Gen.bcast_S8192_S8192x1_0 i (ix2 R 0 : S8192x1.Idx) = i (ix1 R) := by
  simp only [pointwise]
  simp

theorem refIdx_near (R : Fin 8192) : RefRun.column (RefRun.least (F := Ideal) (table m d)) (ix2 R 0) = BitVec.ofNat 32 (near m d R).val :=
  (column_of _ R).trans (least_near m d R)

theorem flat_near (R : Fin 8192) :
    RefRun.flat (RefRun.column (RefRun.least (F := Ideal) (table m d))) (ix1 R) = BitVec.ofNat 32 (near m d R).val :=
  (list_apply _ R).trans (refIdx_near m d R)

/-- The reference takes the nearest code of each row. -/
theorem taken_near (R : Fin 8192) (c : Fin 32) :
    RefRun.taken (F := Ideal) (codes m d) (RefRun.places (RefRun.flat (RefRun.column (RefRun.least (F := Ideal) (table m d))))) (ix2 R c)
      = codes m d (ix2 (near m d R) c : S8192x32.Idx) :=
  RefArg.taken_apply _ _ R (near m d R) c (RefArg.places_apply _ R _ (flat_near m d R))

theorem slice_of {α : Type} (a : S8192x128.Idx → α) (R : Fin 8192) (c : Fin 32) :
    extractStridedSlice S8192x32 ![0, 0] a slices_S8192x128_S8192x32_0_0 (ix2 R c : S8192x32.Idx)
      = a (ix2 R (⟨c.val, by have := c.isLt; omega⟩ : Fin 128) : S8192x128.Idx) :=
  extractStridedSlice_apply _ _ _ _ _ fun a => by
    match a with
    | 0 => simp
    | 1 => simp

theorem pad_of {α : Type} (a : S8192x32.Idx → α) (v : S_.Idx → α) (k : Fin 8192) (c : Fin 32) :
    pad S8192x128 ![0, 0] ![0, 96] ![0, 0] a v pads_S8192x32_S8192x128_000_0960 h_S_
      (tIx k (⟨c.val, by have := c.isLt; omega⟩ : Fin 128)) = a (ix2 k c : S8192x32.Idx) :=
  pad_apply_of_inside _ _ _ _ _ _ _ _ _ fun a => by
    match a with
    | 0 => simp [tIx]
    | 1 => simp [tIx]

/-- The kernel gathers the nearest code of each row. -/
theorem gout_near (R : Fin 8192) (c : Fin 32) :
    extractStridedSlice S8192x32 ![0, 0] (gout (tab m d) (ind m d)) slices_S8192x128_S8192x32_0_0 (ix2 R c : S8192x32.Idx)
      = codes m d (ix2 (near m d R) c : S8192x32.Idx) := by
  have hk : (ind m d (ix1 R : S8192.Idx)).toNat % 8192 = (near m d R).val := by
    rw [ind_near, BitVec.toNat_ofNat]
    have := (near m d R).isLt
    omega
  have hl : lIx R = (ix1 R : S8192.Idx) := by
    rw [lIx_eq (ix1 R : S8192.Idx)]; rfl
  refine (slice_of _ R c).trans ?_
  unfold gout
  rw [tab_eq]
  refine (pad_of _ _ _ c).trans (congrArg (fun k => codes m d (ix2 k c : S8192x32.Idx)) (Fin.ext ?_))
  show (ind m d (lIx R)).toNat % 8192 = _
  rw [hl, hk]

/-- The second output of the first call, entry by entry the same numbers as the reference's. -/
theorem indices_eq : V3 m d main_v2 = RefRun.column (RefRun.least (F := Ideal) (table m d)) := by
  funext i
  obtain ⟨R, rfl⟩ : ∃ R : Fin 8192, i = (ix2 R 0 : S8192x1.Idx) :=
    ⟨i 0, (eq_ix2 (n0 := 8192) (n1 := 1) i).trans (congrArg (ix2 (i 0)) (Subsingleton.elim (α := Fin 1) _ _))⟩
  exact (end_near m d R).trans (refIdx_near m d R).symm

theorem rows_taken : extractStridedSlice S8192x32 ![0, 0] (gout (tab m d) (ind m d)) slices_S8192x128_S8192x32_0_0
    = RefRun.taken (F := Ideal) (codes m d) (RefRun.places (RefRun.flat (RefRun.column (RefRun.least (F := Ideal) (table m d))))) := by
  funext i
  rw [eq_ix2 (n0 := 8192) (n1 := 32) i]
  exact (gout_near m d (i 0) (i 1)).trans (taken_near m d (i 0) (i 1)).symm

end Cert.Proof.Match
-- ==== Proof.Reals.lean ====
/-
  Real numbers among the extended ones: the distance is the sum of the squared differences, and the loss is the same
  weighting of it in both programs.
-/
module

public import proofs.«01_k».proof.Proof.Score

@[expose] public section

noncomputable section

namespace Cert.Proof.Reals

open Cert.Proof.Score
open Idealize.ShloMosaic

theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- A sum of real numbers is real. -/
theorem real_sum {ι : Type} (s : Finset ι) (f : ι → EReal) (h : ∀ i, ∃ r : ℝ, f i = r) : ∃ r : ℝ, ∑ i ∈ s, f i = r := by
  choose g hg using h
  exact ⟨∑ i ∈ s, g i, by rw [coe_sum]; exact Finset.sum_congr rfl fun i _ => hg i⟩

theorem real_square (a b : EReal) (ha : ∃ r : ℝ, a = r) (hb : ∃ r : ℝ, b = r) : ∃ r : ℝ, (a - b) * (a - b) = r := by
  obtain ⟨p, rfl⟩ := ha
  obtain ⟨q, rfl⟩ := hb
  exact ⟨(p - q) * (p - q), by push_cast; rfl⟩

/-- Where both are real, the distance is the sum of the squared differences. -/
theorem dist_squares (x w : Fin 32 → EReal) (hx : ∀ j, ∃ r : ℝ, x j = r) (hw : ∀ j, ∃ r : ℝ, w j = r) :
    dist x w = ∑ j, (w j - x j) * (w j - x j) := by
  choose p hp using hx
  choose q hq using hw
  have h : ((∑ j, p j * p j) - (∑ j, 2 * p j * q j) + ∑ j, q j * q j : ℝ) = ∑ j, (q j - p j) * (q j - p j) := by
    rw [← Finset.sum_sub_distrib, ← Finset.sum_add_distrib]
    exact Finset.sum_congr rfl fun j _ => by ring
  have h' := congrArg (fun r : ℝ => (r : EReal)) h
  simp only [EReal.coe_add, EReal.coe_sub, coe_sum, EReal.coe_mul] at h'
  unfold Score.dist
  simp only [hp, hq]
  exact h'

/-- Adding the difference gives the other number. -/
theorem add_difference (x q : EReal) (hx : ∃ r : ℝ, x = r) (hq : ∃ r : ℝ, q = r) : x + (q - x) = q := by
  obtain ⟨a, rfl⟩ := hx
  obtain ⟨b, rfl⟩ := hq
  norm_cast
  ring

theorem bits_weight : Ideal.ofBits .f32 0x3FA00000#32 = ((5 / 4 : ℝ) : EReal) := by
  simp [Ideal.ofBits, Ideal.ieee]
  rw [← EReal.coe_mul]
  norm_num
theorem bits_quarter : Ideal.ofBits .f32 0x3E800000#32 = ((1 / 4 : ℝ) : EReal) := by
  simp [Ideal.ofBits, Ideal.ieee]
  rw [← EReal.coe_mul]
  norm_num
theorem bits_count : Ideal.ofBits .f32 0x48800000#32 = ((262144 : ℝ) : EReal) := by
  simp [Ideal.ofBits, Ideal.ieee]
  rw [← EReal.coe_mul]
  norm_num

theorem div_real (a b : ℝ) (h : b ≠ 0) : Ideal.div (a : EReal) (b : EReal) = ((a * b⁻¹ : ℝ) : EReal) := by
  unfold Ideal.div
  rw [if_neg (by exact_mod_cast h), EReal.coe_mul, EReal.coe_inv]

/-- Five quarters of the total over the count, or the mean and a quarter of the mean: the same. -/
theorem loss_same (s : EReal) (h : ∃ r : ℝ, s = r) :
    Ideal.div (Ideal.ofBits .f32 0x3FA00000#32 * s) (Ideal.ofBits .f32 0x48800000#32)
      = Ideal.div s (Ideal.ofBits .f32 0x48800000#32) + Ideal.ofBits .f32 0x3E800000#32 * Ideal.div s (Ideal.ofBits .f32 0x48800000#32) := by
  obtain ⟨r, rfl⟩ := h
  rw [bits_weight, bits_quarter, bits_count, div_real r _ (by norm_num), ← EReal.coe_mul, ← EReal.coe_mul, ← EReal.coe_add,
    div_real _ _ (by norm_num)]
  congr 1
  ring

end Cert.Proof.Reals
-- ==== Proof.Loss.lean ====
/-
  The loss: the total that the TensorCore call adds up, block after block, is the sum of the squared differences between
  every row and its nearest code.
-/
module

public import proofs.«01_k».proof.Proof.Match
public import proofs.«01_k».proof.Proof.Reals

@[expose] public section

set_option maxRecDepth 16384

noncomputable section

namespace Cert.Proof.Loss

open Cert.KernelIdeal Cert.KernelIdeal.Gen
open Cert.Proof.Task Cert.Proof.Body Cert.Proof.Region Cert.Proof.Blocks Cert.Proof.Main Cert.Proof.Nearest Cert.Proof.Row Cert.Proof.Ends
open Cert.Proof.Place Cert.Proof.Match
open Idealize.ShloMosaic Idealize.ShloMosaic.TcCoe

/-- The sum of 512 numbers, as the kernel takes it. -/
theorem sum_row (v : FVec Ideal S512 .f32) :
    multiReduction .add [1] S1 (shapeCast S1x512 v shapeCasts_S512_S1x512) 0x00000000#32 reduces_S1x512_S1 (.inl rfl) rfl (ix1 0)
      = ∑ r : Fin 512, v (ix1 r) := by
  have h := Ideal.multiReduction_add_single (shapeCast S1x512 v shapeCasts_S512_S1x512) 0x00000000#32 reduces_S1x512_S1 (.inl rfl) rfl (ix1 0 : S1.Idx)
  refine h.trans (Finset.sum_congr rfl fun r _ => shapeCast_apply _ _ _ (ix1 r : S512.Idx) ?_)
  have e : reduces_S1x512_S1.lift (ix1 0 : S1.Idx) r = (ix2 0 r : S1x512.Idx) := Shape.idx_ext₂ rfl rfl
  rw [e, Shape.rowMajor_val_one, Shape.rowMajor_val_two]
  simp

theorem out_of_one (v : FVec Ideal S1 .f32) :
    extractAt ![0, 0] (shapeCast S1x1 v shapeCasts_S1_S1x1) inpos_S1x1_p0_0 = v (ix1 0) :=
  shapeCast_apply _ _ _ _ rfl

theorem add_same (a b : FVec Ideal S1x1 .f32) : addf (shapeCast S1x1 a shapeCasts_S1x1_S1x1) b (ix2 0 0) = a (ix2 0 0) + b (ix2 0 0) :=
  congrArg (fun z : EReal => z + b (ix2 0 0)) (shapeCast_apply a shapeCasts_S1x1_S1x1 (ix2 0 0 : S1x1.Idx) (ix2 0 0 : S1x1.Idx) rfl)

section Payloads
variable (a : FVec Ideal S512x8192 .f32) (b c : FVec Ideal S512 .f32) (p : IVec S512 1) (e : FVec Ideal S512 .f32)

theorem pay6 : k0_pay6 (F := Ideal) a b c p e (ix2 0 0 : S1x1.Idx) = ∑ r : Fin 512, k0_pay4 (F := Ideal) a b c p e (ix1 r : S512.Idx) := by
  unfold k0_pay6
  generalize k0_pay4 (F := Ideal) a b c p e = v
  exact (out_of_one _).trans (sum_row v)

theorem pay7 (acc : Vec Ideal S1x1 .f32) : k0_pay7 (F := Ideal) a b c p e acc (ix2 0 0 : S1x1.Idx)
    = acc (ix2 0 0 : S1x1.Idx) + k0_pay6 (F := Ideal) a b c p e (ix2 0 0 : S1x1.Idx) := by
  unfold k0_pay7
  generalize k0_pay6 (F := Ideal) a b c p e = v
  exact add_same acc v

end Payloads

variable (x : Vec Ideal S512x32 .f32) (w : Vec Ideal S8192x32 .f32)

theorem sseBlk_apply : sseBlk x w (ix2 0 0 : S1x1.Idx) = ∑ r : Fin 512, rowMin x w r := by
  unfold sseBlk rowMin
  exact pay6 _ _ _ _ _

theorem sseAdd_apply (acc : Vec Ideal S1x1 .f32) :
    sseAdd x w acc (ix2 0 0 : S1x1.Idx) = acc (ix2 0 0 : S1x1.Idx) + ∑ r : Fin 512, rowMin x w r := by
  rw [← sseBlk_apply]
  unfold sseAdd sseBlk
  exact pay7 _ _ _ _ _ acc

variable (m : (ℓ : Loc nD τ sig) → Buf (Elt Ideal) ℓ) (d : Dev nD)

/-- The distance of row `R` to its nearest code. -/
def least (R : Fin 8192) : EReal := far m d R (near m d R)

/-- The sum over the rows of block `t`. -/
def blockSum (t : ℕ) : EReal := if h : t < 16 then ∑ r : Fin 512, least m d (rowOf ⟨t, h⟩ r) else 0

theorem block_eq (t : Fin 16) : ∑ r : Fin 512, rowMin (blkX m d t) (blkW m d t) r = blockSum m d t.val := by
  unfold blockSum
  rw [dif_pos t.isLt]
  exact Finset.sum_congr rfl fun r _ => kernel_min m d t r

theorem total_eq : ∀ (n : ℕ) (h : n < 16) (hn : n < cfg0.N),
    total (U1 m) d n hn (ix2 0 0 : S1x1.Idx) = ∑ t ∈ Finset.range (n + 1), blockSum m d t
  | 0, h, hn => by
    rw [Finset.sum_range_one]
    exact (sseBlk_apply _ _).trans (block_eq m d ⟨0, h⟩)
  | n + 1, h, hn => by
    rw [Finset.sum_range_succ, ← total_eq n (Nat.lt_of_succ_lt h) (Nat.lt_of_succ_lt hn), ← block_eq m d ⟨n + 1, h⟩]
    exact sseAdd_apply _ _ _

/-- All the rows, block by block. -/
def blocksEquiv : Fin 16 × Fin 512 ≃ Fin 8192 where
  toFun p := rowOf p.1 p.2
  invFun R := (⟨R.val / 512, by have := R.isLt; omega⟩, ⟨R.val % 512, by omega⟩)
  left_inv p := by
    obtain ⟨t, r⟩ := p
    have := r.isLt
    refine Prod.ext (Fin.ext ?_) (Fin.ext ?_)
    · show (512 * t.val + r.val) / 512 = t.val
      omega
    · show (512 * t.val + r.val) % 512 = r.val
      omega
  right_inv R := Fin.ext (by show 512 * (R.val / 512) + R.val % 512 = R.val; omega)

theorem sse_eq : sseArr (U1 m) d (ix2 0 0 : S1x1.Idx) = ∑ R : Fin 8192, least m d R := by
  refine (sseArr_apply (U1 m) d).trans ((total_eq m d 15 (by decide) _).trans ?_)
  rw [← Fin.sum_univ_eq_sum_range, ← Equiv.sum_comp blocksEquiv, Fintype.sum_prod_type]
  refine Finset.sum_congr rfl fun t _ => ?_
  unfold blockSum
  rw [dif_pos t.isLt]
  rfl

theorem out_of_square {α : Type} (a : S1x1.Idx → α) (j : S_.Idx) : shapeCast S_ a shapeCasts_S1x1_S_ j = a (ix2 0 0) :=
  congrArg a (Shape.idx_ext₂ (by have := (Shape.reshapeEquiv shapeCasts_S1x1_S_ j 0).isLt; simpa using this)
    (by have := (Shape.reshapeEquiv shapeCasts_S1x1_S_ j 1).isLt; simpa using this))

/-- The kernel's loss, from the total. -/
theorem kernel_loss (a : FVec Ideal S1x1 .f32) (j : S_.Idx) :
    Host.divf (mulf (constant S_ .f32 0x3FA00000#32) (shapeCast S_ a shapeCasts_S1x1_S_)) (constant S_ .f32 0x48800000#32) j
      = Ideal.div (Ideal.ofBits .f32 0x3FA00000#32 * a (ix2 0 0)) (Ideal.ofBits .f32 0x48800000#32) := by
  rw [← out_of_square a j]
  rfl

/-- The sum of the squared differences, taken over the vectors' own form. -/
theorem squares_sum (q : FVec Ideal S8192x32 .f32) (x : FVec Ideal S8x1024x32 .f32) :
    (∑ i : S8x1024x32.Idx, (shapeCast S8x1024x32 q shapeCasts_S8192x32_S8x1024x32 i - x i) * (shapeCast S8x1024x32 q shapeCasts_S8192x32_S8x1024x32 i - x i) : EReal)
      = ∑ R : Fin 8192, ∑ j : Fin 32, (q (ix2 R j) - shapeCast S8192x32 x shapeCasts_S8x1024x32_S8192x32 (ix2 R j))
          * (q (ix2 R j) - shapeCast S8192x32 x shapeCasts_S8x1024x32_S8192x32 (ix2 R j)) := by
  rw [← sum_idx2 (fun i : S8192x32.Idx => ((q i - shapeCast S8192x32 x shapeCasts_S8x1024x32_S8192x32 i)
    * (q i - shapeCast S8192x32 x shapeCasts_S8x1024x32_S8192x32 i) : EReal)),
    ← Equiv.sum_comp (Shape.reshapeEquiv shapeCasts_S8192x32_S8x1024x32)]
  refine Finset.sum_congr rfl fun i _ => ?_
  have e : x i = shapeCast S8192x32 x shapeCasts_S8x1024x32_S8192x32 (Shape.reshapeEquiv shapeCasts_S8192x32_S8x1024x32 i) :=
    (congrFun (shapeCast_shapeCast x shapeCasts_S8x1024x32_S8192x32 shapeCasts_S8192x32_S8x1024x32) i).symm
  rw [e]
  rfl

theorem mean_apply (q x : FVec Ideal S8x1024x32 .f32) (j : S_.Idx) :
    RefRun.mean (F := Ideal) q x j = Ideal.div (∑ i : S8x1024x32.Idx, (q i - x i) * (q i - x i)) (Ideal.ofBits .f32 0x48800000#32) := by
  have h := Ideal.hostReduceAdd_total Cert.ReferenceIdeal.Gen.reducesTo_S8x1024x32_S_d0_1_2 (fun b => b.elim0) (mulf (subf q x) (subf q x))
    (Ideal.ofBits .f32 0x00000000#32) j
  rw [Ideal.ofBits_zero_f32, zero_add] at h
  refine congrArg (fun z => Ideal.div z (Ideal.ofBits .f32 0x48800000#32)) (Eq.trans
    (b := Ideal.hostReduceAdd Cert.ReferenceIdeal.Gen.reducesTo_S8x1024x32_S_d0_1_2 (mulf (subf q x) (subf q x)) (Ideal.ofBits .f32 0x00000000#32) j) rfl ?_)
  rw [Ideal.ofBits_zero_f32]
  exact h

end Cert.Proof.Loss
-- ==== Proof.Finite.lean ====
/-
  What the precondition says: every entry of the two arguments is a real number.
-/
module

public import proofs.«01_k».proof.Proof.Gen.Pre_finite
public import Idealize.ShloMosaic.PureOps.Ideal.Laws

@[expose] public section

noncomputable section

namespace Cert.Proof.Finite

open Cert.Pre_finite Cert.Pre_finite.Gen
open Idealize.ShloMosaic

theorem both_one : ∀ a b : BitVec 1, IntOp.andi a b = 1#1 → a = 1#1 ∧ b = 1#1 := by decide

/-- A conjunction that holds, holds at each member. -/
theorem fold_all {ι : Type} [DecidableEq ι] (f : ι → BitVec 1) (s : Finset ι) :
    s.fold IntOp.andi 1#1 f = 1#1 → ∀ i ∈ s, f i = 1#1 := by
  refine Finset.induction_on s (fun _ i hi => absurd hi (Finset.notMem_empty i)) fun a s ha ih h i hi => ?_
  rw [Finset.fold_insert ha] at h
  obtain ⟨h1, h2⟩ := both_one _ _ h
  rcases Finset.mem_insert.mp hi with rfl | hi
  · exact h1
  · exact ih h2 i hi

theorem all_of_reduce {s : Shape} {axes : List (Fin s.rank)} (f : IVec s 1) (h : s.ReducesTo axes S_) (j : S_.Idx)
    (e : Host.reduce IntOp.andi f (constantI S_ 1 1#1) h h_S_ j = 1#1) (i : s.Idx) : f i = 1#1 := by
  rw [Host.reduce_eq_fold] at e
  exact fold_all f _ e i (Finset.mem_filter.mpr ⟨Finset.mem_univ i, funext fun b => b.elim0⟩)

theorem ofBits_inf : Ideal.ofBits .f32 0x7F800000#32 = ⊤ := by simp [Ideal.ofBits, Ideal.ieee]

/-- A number whose size is below infinity is real. -/
theorem real_of_abs (a : EReal) (h : Ideal.cmp .olt (max a (-a)) (Ideal.ofBits .f32 0x7F800000#32) = 1#1) : ∃ r : ℝ, a = r := by
  rw [ofBits_inf] at h
  have hlt : max a (-a) < ⊤ := by
    by_contra hn
    simp [Ideal.cmp, hn] at h
  induction a using EReal.rec with
  | bot => simp at hlt
  | top => simp at hlt
  | coe r => exact ⟨r, rfl⟩

/-- Both arguments hold real numbers. -/
theorem reals (x : FVec Ideal S8x1024x32 .f32) (w : FVec Ideal S8192x32 .f32) (h : Cert.Pre_finite.fn (F := Ideal) x w = fun _ => 1#1) :
    (∀ i, ∃ r : ℝ, x i = (r : EReal)) ∧ ∀ i, ∃ r : ℝ, w i = (r : EReal) := by
  have h0 := congrFun h (fun b => b.elim0)
  obtain ⟨h1, h2⟩ := both_one _ _ h0
  exact ⟨fun i => real_of_abs _ (all_of_reduce _ _ _ h1 i), fun i => real_of_abs _ (all_of_reduce _ _ _ h2 i)⟩

end Cert.Proof.Finite
-- ==== Proof.Equal.lean ====
/-
  The three results of the two programs are equal, where both arguments hold real numbers.
-/
module

public import proofs.«01_k».proof.Proof.Loss
public import proofs.«01_k».proof.Proof.Finite

@[expose] public section

set_option maxRecDepth 16384

noncomputable section

namespace Cert.Proof.Equal

open Cert.KernelIdeal Cert.KernelIdeal.Gen
open Cert.Proof.Main Cert.Proof.Ends Cert.Proof.Match Cert.Proof.Loss Cert.Proof.Reals
open Idealize.ShloMosaic Idealize.ShloMosaic.TcCoe

variable (m : (ℓ : Loc nD τ sig) → Buf (Elt Ideal) ℓ) (d : Dev nD)

/-- The vectors. -/
def vecs : FVec Ideal S8x1024x32 .f32 := m (d, Proc.devRef .tc main_arg0)
/-- The codebook. -/
def book : FVec Ideal S8192x32 .f32 := m (d, Proc.devRef .tc main_arg1)

theorem rows_eq : rows m d = shapeCast S8192x32 (vecs m d) shapeCasts_S8x1024x32_S8192x32 := rfl
theorem codes_eq : codes m d = book m d := rfl
theorem table_eq : table m d = RefRun.dists (F := Ideal) (RefRun.xRows (vecs m d)) (book m d) := rfl

/-- The nearest codes, one per row. -/
def picked : FVec Ideal S8192x32 .f32 :=
  RefRun.taken (F := Ideal) (codes m d) (RefRun.places (RefRun.flat (RefRun.column (RefRun.least (F := Ideal) (table m d)))))

theorem refIdx_eq : RefRun.refIdx (F := Ideal) (vecs m d) (book m d) = RefRun.column (RefRun.least (F := Ideal) (table m d)) := by
  rw [table_eq]
  unfold RefRun.refIdx
  rfl

theorem refNear_eq : RefRun.refNear (F := Ideal) (vecs m d) (book m d) = shapeCast S8x1024x32 (picked m d) shapeCasts_S8192x32_S8x1024x32 := by
  unfold RefRun.refNear picked
  rw [refIdx_eq, codes_eq]

/-- Third result: the row numbers. -/
theorem third : V3 m d main_v2 = RefRun.refIdx (F := Ideal) (vecs m d) (book m d) := (indices_eq m d).trans (refIdx_eq m d).symm

section Real
variable (hx : ∀ i, ∃ r : ℝ, vecs m d i = (r : EReal)) (hw : ∀ i, ∃ r : ℝ, book m d i = (r : EReal))
include hx hw

theorem picked_real (i : S8192x32.Idx) : ∃ r : ℝ, picked m d i = (r : EReal) := by
  rw [eq_ix2 (n0 := 8192) (n1 := 32) i]
  exact (hw _).imp fun r h => (taken_near m d (i 0) (i 1)).trans h

/-- First result: the vector plus its difference to the nearest code is that code. -/
theorem first : V3 m d main_v7 = RefRun.refOut (F := Ideal) (vecs m d) (book m d) := by
  refine (end_quantized m d).trans ?_
  rw [rows_taken]
  unfold RefRun.refOut
  rw [refNear_eq]
  funext i
  exact (add_difference (vecs m d i) (shapeCast S8x1024x32 (picked m d) shapeCasts_S8192x32_S8x1024x32 i) (hx i)
    (picked_real m d hx hw _)).symm

/-- The distance to the nearest code is the sum of the squared differences. -/
theorem least_squares (R : Fin 8192) : least m d R = ∑ j : Fin 32, (picked m d (ix2 R j) - rows m d (ix2 R j : S8192x32.Idx))
    * (picked m d (ix2 R j) - rows m d (ix2 R j : S8192x32.Idx)) := by
  refine (dist_squares _ _ (fun j => hx _) (fun j => hw _)).trans (Finset.sum_congr rfl fun j _ => ?_)
  exact congrArg (fun z : EReal => (z - rows m d (ix2 R j : S8192x32.Idx)) * (z - rows m d (ix2 R j : S8192x32.Idx))) (taken_near m d R j).symm

/-- Second result: the loss. -/
theorem second : V3 m d main_v10 = RefRun.refLoss (F := Ideal) (vecs m d) (book m d) := by
  refine (end_loss m d).trans (funext fun j => ?_)
  have hs : Region.sseArr (U1 m) d (ix2 0 0 : S1x1.Idx)
      = (∑ i : S8x1024x32.Idx, (shapeCast S8x1024x32 (picked m d) shapeCasts_S8192x32_S8x1024x32 i - vecs m d i)
          * (shapeCast S8x1024x32 (picked m d) shapeCasts_S8192x32_S8x1024x32 i - vecs m d i) : EReal) :=
    (sse_eq m d).trans ((Finset.sum_congr rfl fun R _ => least_squares m d hx hw R).trans (squares_sum (picked m d) (vecs m d)).symm)
  have hr : ∃ r : ℝ, (∑ i : S8x1024x32.Idx, (shapeCast S8x1024x32 (picked m d) shapeCasts_S8192x32_S8x1024x32 i - vecs m d i)
          * (shapeCast S8x1024x32 (picked m d) shapeCasts_S8192x32_S8x1024x32 i - vecs m d i) : EReal) = r :=
    real_sum _ _ fun i => real_square _ _ (picked_real m d hx hw _) (hx i)
  refine (kernel_loss _ j).trans ?_
  rw [hs, loss_same _ hr, ← mean_apply _ _ j]
  unfold RefRun.refLoss
  rw [refNear_eq]
  rfl

end Real

end Cert.Proof.Equal
-- ==== Proof.lean ====
/-
  The certificate: the two programs run and end quiescent, and their three results are equal as extended reals.
-/
module

public import proofs.«01_k».proof.Defs
public import proofs.«01_k».proof.Proof.Gen.KernelIdeal
public import proofs.«01_k».proof.Proof.Gen.ReferenceIdeal
public import proofs.«01_k».proof.Proof.Gen.Pre_finite
public import proofs.«01_k».proof.Proof.Equal

@[expose] public section

noncomputable section

namespace Cert.Proof

open Idealize.ShloMosaic Idealize.SL.Sem

/-- The kernel's frame. -/
theorem frameKernel : Cert.quiescent_KernelIdeal (hKernelIdeal := Cert.KernelIdeal.Gen.facts) := fun m g _ =>
  (θ_run _ _ _).mono
    (fun _ h => ⟨fun c => ⟨(Place.QC_at m h c Cert.KernelIdeal.main_arg0).trans (Ends.end_arg0 m c),
      (Place.QC_at m h c Cert.KernelIdeal.main_arg1).trans (Ends.end_arg1 m c)⟩, h.2⟩)
    (Place.run m g)

/-- The reference's frame. -/
theorem frameReference : Cert.quiescent_ReferenceIdeal (hReferenceIdeal := Cert.ReferenceIdeal.Gen.facts) := fun m g _ =>
  (θ_run _ _ _).mono (fun _ h => ⟨fun c => (h.1 c).2.2.2, h.2⟩) (RefRun.run_ref m g)

/-- The three results are equal, where the arguments are finite. -/
theorem equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  have hr := fun c => Finite.reals (Equal.vecs m c) (Equal.book m c) (hp c)
  refine ⟨fun c => RefRun.refOut (F := Ideal) (Equal.vecs m c) (Equal.book m c), fun c => RefRun.refLoss (F := Ideal) (Equal.vecs m c) (Equal.book m c),
    fun c => RefRun.refIdx (F := Ideal) (Equal.vecs m c) (Equal.book m c), ?_, ?_⟩
  · refine (θ_run _ _ _).mono (fun r h c => ?_) (Place.run m g)
    exact ⟨(Place.QC_at m h c Cert.KernelIdeal.main_v7).trans (Equal.first m c (hr c).1 (hr c).2),
      (Place.QC_at m h c Cert.KernelIdeal.main_v10).trans (Equal.second m c (hr c).1 (hr c).2),
      (Place.QC_at m h c Cert.KernelIdeal.main_v2).trans (Equal.third m c),
      (Place.QC_at m h c Cert.KernelIdeal.main_arg0).trans (Ends.end_arg0 m c),
      (Place.QC_at m h c Cert.KernelIdeal.main_arg1).trans (Ends.end_arg1 m c)⟩
  · refine (θ_run _ _ _).mono (fun r h c => ?_) (RefRun.run_ref m' g')
    obtain ⟨h31, h29, h16, h0, h1⟩ := h.1 c
    exact ⟨h31.trans (congrArg₂ (RefRun.refOut (F := Ideal)) (ha c).1 (ha c).2),
      h29.trans (congrArg₂ (RefRun.refLoss (F := Ideal)) (ha c).1 (ha c).2),
      h16.trans (congrArg₂ (RefRun.refIdx (F := Ideal)) (ha c).1 (ha c).2), h0, h1⟩

theorem claim : Cert.Claim :=
  ⟨Cert.KernelIdeal.Gen.facts, Cert.ReferenceIdeal.Gen.facts, Cert.Pre_finite.Gen.facts,
    frameKernel, fun m g _ => frameKernel m g trivial, frameReference, fun m g _ => frameReference m g trivial, equal⟩

end Cert.Proof
